-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "gelu_ck" .f32 0x3D122279#32 ((35677408136300126361 / 1000000000000000000000 : ℝ) : EReal)
  ∧ IdealRules.named_const.Statement Cert.KernelIdeal.κ "gelu_c" .f32 0x3F4C422A#32 ((3989422804014327 / 5000000000000000 : ℝ) : EReal)
  ∧ IdealRules.named_const.Statement Cert.KernelIdeal.κ "gelu_c_third" .f32 0x3E882C1C#32 ((1329807601338109 / 5000000000000000 : ℝ) : EReal)
  ∧ IdealRules.named_const.Statement Cert.KernelIdeal.κ "third" .f32 0x3EAAAAAB#32 ((1 / 3 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x896x25600 : Shape := ⟨3, ![2, 896, 25600]⟩
abbrev S2x896x800 : Shape := ⟨3, ![2, 896, 800]⟩
abbrev S_ : Shape := ⟨0, ![]⟩

class Facts : Prop where
  bcast_S_S2x896x25600 : S_.BroadcastsInDim S2x896x25600 (![] : Fin 0 → Fin S2x896x25600.rank)
  bcast_S_S2x896x800 : S_.BroadcastsInDim S2x896x800 (![] : Fin 0 → Fin S2x896x800.rank)

variable [Facts]

def fn {F : FTy → Type} [FloatOps F] (main_arg0 : IVec S2x896x25600 8) (main_arg1 : IVec S2x896x800 8) (main_arg2 : FVec F S2x896x25600 .bf16) : IVec S2x896x25600 1 × IVec S2x896x800 1 :=
  let main_c : IVec S_ 8 := constantI S_ 8 127#8
  let main_v0 : IVec S2x896x25600 8 := broadcastInDim S2x896x25600 ![] bcast_S_S2x896x25600 main_c
  let main_v1 : IVec S2x896x25600 1 := cmpi .ne main_arg0 main_v0
  let main_c_0 : IVec S_ 8 := constantI S_ 8 255#8
  let main_v2 : IVec S2x896x25600 8 := broadcastInDim S2x896x25600 ![] bcast_S_S2x896x25600 main_c_0
  let main_v3 : IVec S2x896x25600 1 := cmpi .ne main_arg0 main_v2
  let main_v4 : IVec S2x896x25600 1 := andi main_v1 main_v3
  let main_c_1 : IVec S_ 8 := constantI S_ 8 1#8
  let main_v5 : IVec S2x896x800 8 := broadcastInDim S2x896x800 ![] bcast_S_S2x896x800 main_c_1
  let main_v6 : IVec S2x896x800 1 := cmpi .uge main_arg1 main_v5
  let main_c_2 : IVec S_ 8 := constantI S_ 8 253#8
  let main_v7 : IVec S2x896x800 8 := broadcastInDim S2x896x800 ![] bcast_S_S2x896x800 main_c_2
  let main_v8 : IVec S2x896x800 1 := cmpi .ule main_arg1 main_v7
  let main_v9 : IVec S2x896x800 1 := andi main_v6 main_v8
  (main_v4, main_v9)
-- ==== Kernel.lean ====
abbrev S2x896x25600 : Shape := ⟨3, ![2, 896, 25600]⟩
abbrev S2x896x800 : Shape := ⟨3, ![2, 896, 800]⟩
abbrev S2x25600x896 : Shape := ⟨3, ![2, 25600, 896]⟩
abbrev S2x25600x28 : Shape := ⟨3, ![2, 25600, 28]⟩
abbrev S1x896x512 : Shape := ⟨3, ![1, 896, 512]⟩
abbrev S1x896x800 : Shape := ⟨3, ![1, 896, 800]⟩
abbrev S1x512x896 : Shape := ⟨3, ![1, 512, 896]⟩
abbrev S1x512x28 : Shape := ⟨3, ![1, 512, 28]⟩
abbrev S896x896 : Shape := ⟨2, ![896, 896]⟩
abbrev S128x4096 : Shape := ⟨2, ![128, 4096]⟩
abbrev S896x800 : Shape := ⟨2, ![896, 800]⟩
abbrev S896x128 : Shape := ⟨2, ![896, 128]⟩
abbrev S128x512 : Shape := ⟨2, ![128, 512]⟩
abbrev S896x512 : Shape := ⟨2, ![896, 512]⟩
abbrev S1x32x128 : Shape := ⟨3, ![1, 32, 128]⟩
abbrev S32x128 : Shape := ⟨2, ![32, 128]⟩
abbrev S128 : Shape := ⟨1, ![128]⟩
abbrev S1x128 : Shape := ⟨2, ![1, 128]⟩
abbrev S255x128 : Shape := ⟨2, ![255, 128]⟩
abbrev S128x896 : Shape := ⟨2, ![128, 896]⟩
abbrev S1x128x896 : Shape := ⟨3, ![1, 128, 896]⟩
abbrev S28x128 : Shape := ⟨2, ![28, 128]⟩
abbrev S128x28 : Shape := ⟨2, ![128, 28]⟩
abbrev S1x128x28 : Shape := ⟨3, ![1, 128, 28]⟩

abbrev nBuf : Space → Nat
  | .hbm => 6
  | .vmem => 12
  | .smem => 0
  | _ => 0

abbrev bufTy : (tb : Table) → Fin (tcTables nBuf tb) → BufTy
  | .hbm, ⟨0, _⟩ => ⟨S2x896x25600, .i8⟩
  | .hbm, ⟨1, _⟩ => ⟨S2x896x800, .i8⟩
  | .hbm, ⟨2, _⟩ => ⟨S2x896x25600, .bf16⟩
  | .hbm, ⟨3, _⟩ => ⟨S2x896x25600, .fp8e4m3⟩
  | .hbm, ⟨4, _⟩ => ⟨S2x25600x896, .fp8e4m3⟩
  | .hbm, ⟨5, _⟩ => ⟨S2x25600x28, .i8⟩
  | .local _ .vmem, ⟨0, _⟩ => ⟨S1x896x512, .fp8e4m3⟩
  | .local _ .vmem, ⟨1, _⟩ => ⟨S1x896x512, .fp8e4m3⟩
  | .local _ .vmem, ⟨2, _⟩ => ⟨S1x896x800, .i8⟩
  | .local _ .vmem, ⟨3, _⟩ => ⟨S1x896x800, .i8⟩
  | .local _ .vmem, ⟨4, _⟩ => ⟨S1x896x512, .bf16⟩
  | .local _ .vmem, ⟨5, _⟩ => ⟨S1x896x512, .bf16⟩
  | .local _ .vmem, ⟨6, _⟩ => ⟨S1x512x896, .fp8e4m3⟩
  | .local _ .vmem, ⟨7, _⟩ => ⟨S1x512x896, .fp8e4m3⟩
  | .local _ .vmem, ⟨8, _⟩ => ⟨S1x512x28, .i8⟩
  | .local _ .vmem, ⟨9, _⟩ => ⟨S1x512x28, .i8⟩
  | .local _ .vmem, ⟨10, _⟩ => ⟨S896x896, .bf16⟩
  | .local _ .vmem, ⟨11, _⟩ => ⟨S128x4096, .bf16⟩
  | _, _ => ⟨S2x896x25600, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 50], ![false, false]⟩

def k0_mult1 (i : grid0.Coords) : BitVec 32 :=
  let arg1 : BitVec 32 := BitVec.ofNat 32 (i 1).val
  let c0_i32_4 : BitVec 32 := 0#32
  let v9 : BitVec 1 := Scalar.cmpi .sgt arg1 c0_i32_4
  let v10 : BitVec 32 := Scalar.extui v9
  let c0_i32_5 : BitVec 32 := 0#32
  let v11 : BitVec 1 := Scalar.cmpi .slt arg1 c0_i32_5
  let v12 : BitVec 32 := Scalar.extui v11
  let v13 : BitVec 32 := Scalar.subi v10 v12
  let c8_i32 : BitVec 32 := 8#32
  let c0_i32_6 : BitVec 32 := 0#32
  let v14 : BitVec 1 := Scalar.cmpi .sgt c8_i32 c0_i32_6
  let v15 : BitVec 32 := Scalar.extui v14
  let c0_i32_7 : BitVec 32 := 0#32
  let v16 : BitVec 1 := Scalar.cmpi .slt c8_i32 c0_i32_7
  let v17 : BitVec 32 := Scalar.extui v16
  let v18 : BitVec 32 := Scalar.subi v15 v17
  let v19 : BitVec 1 := Scalar.cmpi .ne v13 v18
  let v20 : BitVec 32 := Scalar.remsi arg1 c8_i32
  let c0_i32_8 : BitVec 32 := 0#32
  let v21 : BitVec 1 := Scalar.cmpi .ne v20 c0_i32_8
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c128_i32 : BitVec 32 := 128#32
  let v25 : BitVec 32 := Scalar.muli v24 c128_i32
  v25
def k0_mult2 (i : grid0.Coords) : BitVec 32 :=
  let arg1 : BitVec 32 := BitVec.ofNat 32 (i 1).val
  let c8_i32_9 : BitVec 32 := 8#32
  let c0_i32_10 : BitVec 32 := 0#32
  let v27 : BitVec 1 := Scalar.cmpi .eq c8_i32_9 c0_i32_10
  let c1_i32_11 : BitVec 32 := 1#32
  let v28 : BitVec 32 := Scalar.select v27 c1_i32_11 c8_i32_9
  let v29 : BitVec 32 := Scalar.remsi arg1 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c512_i32 : BitVec 32 := 512#32
  let v37 : BitVec 32 := Scalar.muli v36 c512_i32
  v37
def k0_off1 (i : grid0.Coords) : Fin 2 → Nat :=
  let c0 : Index := 0#32
  let arg1 : BitVec 32 := BitVec.ofNat 32 (i 1).val
  let c0_i32_4 : BitVec 32 := 0#32
  let v9 : BitVec 1 := Scalar.cmpi .sgt arg1 c0_i32_4
  let v10 : BitVec 32 := Scalar.extui v9
  let c0_i32_5 : BitVec 32 := 0#32
  let v11 : BitVec 1 := Scalar.cmpi .slt arg1 c0_i32_5
  let v12 : BitVec 32 := Scalar.extui v11
  let v13 : BitVec 32 := Scalar.subi v10 v12
  let c8_i32 : BitVec 32 := 8#32
  let c0_i32_6 : BitVec 32 := 0#32
  let v14 : BitVec 1 := Scalar.cmpi .sgt c8_i32 c0_i32_6
  let v15 : BitVec 32 := Scalar.extui v14
  let c0_i32_7 : BitVec 32 := 0#32
  let v16 : BitVec 1 := Scalar.cmpi .slt c8_i32 c0_i32_7
  let v17 : BitVec 32 := Scalar.extui v16
  let v18 : BitVec 32 := Scalar.subi v15 v17
  let v19 : BitVec 1 := Scalar.cmpi .ne v13 v18
  let v20 : BitVec 32 := Scalar.remsi arg1 c8_i32
  let c0_i32_8 : BitVec 32 := 0#32
  let v21 : BitVec 1 := Scalar.cmpi .ne v20 c0_i32_8
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c128_i32 : BitVec 32 := 128#32
  let v25 : BitVec 32 := Scalar.muli v24 c128_i32
  let v26 : BitVec 32 := v25
  let v39 : Index := Scalar.indexCast v26
  ![0, v39.toNat]
def k0_off2 (i : grid0.Coords) : Fin 2 → Nat :=
  let c0_15 : Index := 0#32
  let arg1 : BitVec 32 := BitVec.ofNat 32 (i 1).val
  let c8_i32_9 : BitVec 32 := 8#32
  let c0_i32_10 : BitVec 32 := 0#32
  let v27 : BitVec 1 := Scalar.cmpi .eq c8_i32_9 c0_i32_10
  let c1_i32_11 : BitVec 32 := 1#32
  let v28 : BitVec 32 := Scalar.select v27 c1_i32_11 c8_i32_9
  let v29 : BitVec 32 := Scalar.remsi arg1 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c512_i32 : BitVec 32 := 512#32
  let v37 : BitVec 32 := Scalar.muli v36 c512_i32
  let v38 : BitVec 32 := v37
  let v41 : Index := Scalar.indexCast v38
  ![0, v41.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x896x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x896x800 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x896x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x896 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x28 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "gelu_c" => some ((3989422804014327 / 5000000000000000 : ℝ) : EReal)
  | "gelu_c_third" => some ((1329807601338109 / 5000000000000000 : ℝ) : EReal)
  | "gelu_ck" => some ((35677408136300126361 / 1000000000000000000000 : ℝ) : EReal)
  | "third" => some ((1 / 3 : ℝ) : EReal)
  | _ => none
-- ==== ReferenceIdeal.lean ====
abbrev S2x896x25600 : Shape := ⟨3, ![2, 896, 25600]⟩
abbrev S2x896x800 : Shape := ⟨3, ![2, 896, 800]⟩
abbrev S2x25600x896 : Shape := ⟨3, ![2, 25600, 896]⟩
abbrev S2x25600x28 : Shape := ⟨3, ![2, 25600, 28]⟩
abbrev S2x896x800x32 : Shape := ⟨4, ![2, 896, 800, 32]⟩
abbrev S2x896x800x1 : Shape := ⟨4, ![2, 896, 800, 1]⟩
abbrev S2x25600x28x32 : Shape := ⟨4, ![2, 25600, 28, 32]⟩
abbrev S2x25600x28x1 : Shape := ⟨4, ![2, 25600, 28, 1]⟩

abbrev nBuf : Space → Nat
  | .hbm => 6
  | .vmem => 5
  | .smem => 0
  | _ => 0

abbrev bufTy : (tb : Table) → Fin (tcTables nBuf tb) → BufTy
  | .hbm, ⟨0, _⟩ => ⟨S2x896x25600, .i8⟩
  | .hbm, ⟨1, _⟩ => ⟨S2x896x800, .i8⟩
  | .hbm, ⟨2, _⟩ => ⟨S2x896x25600, .bf16⟩
  | .hbm, ⟨3, _⟩ => ⟨S2x896x25600, .fp8e4m3⟩
  | .hbm, ⟨4, _⟩ => ⟨S2x25600x896, .fp8e4m3⟩
  | .hbm, ⟨5, _⟩ => ⟨S2x25600x28, .i8⟩
  | .local _ .vmem, ⟨0, _⟩ => ⟨S2x896x25600, .fp8e4m3⟩
  | .local _ .vmem, ⟨1, _⟩ => ⟨S2x896x800, .i8⟩
  | .local _ .vmem, ⟨2, _⟩ => ⟨S2x896x25600, .bf16⟩
  | .local _ .vmem, ⟨3, _⟩ => ⟨S2x25600x896, .fp8e4m3⟩
  | .local _ .vmem, ⟨4, _⟩ => ⟨S2x25600x28, .i8⟩
  | _, _ => ⟨S2x896x25600, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "gelu_3k" => some ((26829 / 200000 : ℝ) : EReal)
  | "gelu_c" => some ((3989422804014327 / 5000000000000000 : ℝ) : EReal)
  | "gelu_k" => some ((8943 / 200000 : ℝ) : EReal)
  | "ln2" => some ((Real.log 2 : ℝ) : EReal)
  | _ => none

abbrev grid0 : Pipeline.Grid := .none

abbrev stage0_0 : Fin 1 → Memref sig .tc .vmem S2x896x25600 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x896x800 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x896x25600 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x25600x896 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x25600x28 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelScratch.lean ====
/- The body's first part, which fills the two scratch buffers: what it leaves in them, from what it finds.
   The rest of the body (the 112 row groups) only reads them, so it is run once, over any contents. -/
module

public import proofs.«01_k».proof.Proof.Gen.Kernel.Frame
public import proofs.«01_k».proof.Proof.Gen.Kernel.Skeleton
public import Idealize.ShloMosaic.Lib.Pipeline.Value
public import Idealize.ShloMosaic.Lib.Claim

@[expose] public section

-- membership in a rectangle of production extents: the elaborator's structural look recurses once per coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 100 = 0 :=
  (fun t => by
    have ht : t.val < 100 := Nat.lt_of_lt_of_eq t.isLt N_0
    have e0 : (grid0.coords t 0).val = t.val / 50 % 2 := Pipeline.Grid.coords_val t 0 (by decide) rfl
    have e1 : (grid0.coords t 1).val = t.val / 1 % 50 := Pipeline.Grid.coords_val t 1 (by decide) rfl
    simp only [cond0_0, e0, e1]
    word_cmp
   : ∀ t : Fin grid0.N, cond0_0 (grid0.coords t) ↔ t.val % 100 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 50) — by arithmetic of the point. -/
theorem hcond0_1 : ∀ t : Fin cfg0.N, cond0_1 (grid0.coords t) ↔ t.val % 50 = 0 :=
  (fun t => by
    have ht : t.val < 100 := Nat.lt_of_lt_of_eq t.isLt N_0
    have e0 : (grid0.coords t 0).val = t.val / 50 % 2 := Pipeline.Grid.coords_val t 0 (by decide) rfl
    have e1 : (grid0.coords t 1).val = t.val / 1 % 50 := Pipeline.Grid.coords_val t 1 (by decide) rfl
    simp only [cond0_1, e0, e1]
    word_cmp
   : ∀ t : Fin grid0.N, cond0_1 (grid0.coords t) ↔ t.val % 50 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x896x512 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x896x800 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x896x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x896 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x28 .i8 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S896x896 .bf16 := Memref.whole cc0_scratch0
abbrev scM0_1 : Memref sig .tc .vmem S128x4096 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The offsets of the two scratch windows -/

theorem off1_eq : ∀ i : grid0.Coords, k0_off1 i = ![0, (i 1).val / 8 * 128] := by decide +kernel
theorem off2_eq : ∀ i : grid0.Coords, k0_off2 i = ![0, (i 1).val % 8 * 512] := by decide +kernel

instance closedOff1 (i : grid0.Coords) : ClosedOff (k0_off1 i) := ⟨![0, (i 1).val / 8 * 128], off1_eq i⟩
instance closedOff2 (i : grid0.Coords) : ClosedOff (k0_off2 i) := ⟨![0, (i 1).val % 8 * 512], off2_eq i⟩

set_option maxHeartbeats 1600000 in
/-- The first part, at any grid point: whatever the two scratch buffers hold, it runs and leaves them at some
    contents. -/
theorem part1_spec (c : Dev nD) (i : grid0.Coords) (arg2 : Memref sig .tc .vmem S1x896x512 .fp8e4m3) (harg2 : arg2.IsWhole) (arg3 : Memref sig .tc .vmem S1x896x800 .i8) (harg3 : arg3.IsWhole) (arg4 : Memref sig .tc .vmem S1x896x512 .bf16) (harg4 : arg4.IsWhole) (arg5 : Memref sig .tc .vmem S1x512x896 .fp8e4m3) (harg5 : arg5.IsWhole) (arg6 : Memref sig .tc .vmem S1x512x28 .i8) (harg6 : arg6.IsWhole) (arg7 : Memref sig .tc .vmem S896x896 .bf16) (harg7 : arg7.IsWhole) (arg8 : Memref sig .tc .vmem S128x4096 .bf16) (harg8 : arg8.IsWhole)
    (x1 : Vec F S1x896x800 .i8) (E : Set ℕ) (K : (Σ' (v26 : BitVec 32), BitVec 32) → sProp 𝕄) :
    iprop(owns (c : Thread nD τ) arg3 fullShare x1 ∗ (∃ d, owns (c : Thread nD τ) arg7 fullShare d) ∗ (∃ d, owns (c : Thread nD τ) arg8 fullShare d)
        ∗ (∀ v, iprop(owns (c : Thread nD τ) arg3 fullShare x1 ∗ (∃ d, owns (c : Thread nD τ) arg7 fullShare d) ∗ (∃ d, owns (c : Thread nD τ) arg8 fullShare d)) -∗ K v))
      ⊢ wp frame (wpE (defs₀ (F := F)) Variants.none c none) E (k0_part1 i arg2 harg2 arg3 harg3 arg4 harg4 arg5 harg5 arg6 harg6 arg7 harg7 arg8 harg8) K := by
  rw [k0_part1_eq_skeleton]; unfold k0_part1_skel owns
  iintro ⟨⟨%f1, %hf1, H1⟩, ⟨%ds0, %fs0, -, HS0⟩, ⟨%ds1, %fs1, -, HS1⟩, Hk⟩
  obtain rfl := harg3.eq_unread hf1
  by_cases hc0 : cond0_0 i <;> by_cases hc1 : cond0_1 i
  all_goals
    sl_exec (disch := first | sl_exact hc0 | sl_exact hc1)
    sl_step
    iapply Hk
    isplitl [H1]
    · iexists _; isplitr; · ipureintro; exact harg3.read_unread _
      iexact H1
    isplitl [HS0]
    · iexists _, _; isplitr; swap; · iexact HS0
      ipureintro; rfl
    iexists _, _; isplitr; swap; · iexact HS1
    ipureintro; rfl

end Cert.Kernel.Gen

end
-- ==== Proof.KernelRun.lean ====
/- The whole body at a grid point: the first part, then the 112 row groups in four tiles, run once over any contents of
   the scratch buffers. -/
module

public import proofs.«01_k».proof.Proof.KernelScratch
public import Idealize.ShloMosaic.Lib.Claim

@[expose] public section

-- membership in a rectangle of production extents: the elaborator's structural look recurses once per coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body: from the inputs' memrefs at their contents and the rest at anything, it runs to the continuation holding the
    inputs' as they were and the rest at some contents. -/
theorem kernelRun (c : Dev nD) (i : grid0.Coords) (arg2 : Memref sig .tc .vmem S1x896x512 .fp8e4m3) (harg2 : arg2.IsWhole) (arg3 : Memref sig .tc .vmem S1x896x800 .i8) (harg3 : arg3.IsWhole) (arg4 : Memref sig .tc .vmem S1x896x512 .bf16) (harg4 : arg4.IsWhole) (arg5 : Memref sig .tc .vmem S1x512x896 .fp8e4m3) (harg5 : arg5.IsWhole) (arg6 : Memref sig .tc .vmem S1x512x28 .i8) (harg6 : arg6.IsWhole) (arg7 : Memref sig .tc .vmem S896x896 .bf16) (harg7 : arg7.IsWhole) (arg8 : Memref sig .tc .vmem S128x4096 .bf16) (harg8 : arg8.IsWhole)
    (x0 : Vec F S1x896x512 .fp8e4m3) (x1 : Vec F S1x896x800 .i8) (x2 : Vec F S1x896x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_dgelu_cast_transpose i arg2 harg2 arg3 harg3 arg4 harg4 arg5 harg5 arg6 harg6 arg7 harg7 arg8 harg8) K := by
  simp only [cc0_dgelu_cast_transpose_eq_skeleton]; unfold cc0_dgelu_cast_transpose_skel
  simp only [k0_part162_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part163_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton]
  unfold k0_part162_skel
  rw [wp_bind, wp_bind]
  iintro ⟨H0, H1, H2, H3, H4, HS0, HS1, Hk⟩
  iapply (part1_spec c i arg2 harg2 arg3 harg3 arg4 harg4 arg5 harg5 arg6 harg6 arg7 harg7 arg8 harg8 x1 E _)
  isplitl [H1]; · iexact H1
  isplitl [HS0]; · iexact HS0
  isplitl [HS1]; · iexact HS1
  iintro %v ⟨H1, HS0, HS1⟩
  unfold owns
  icases H0 with ⟨%f0, %hf0, H0⟩
  icases H2 with ⟨%f2, %hf2, H2⟩
  icases H3 with ⟨%d3, %f3, -, H3⟩
  icases H4 with ⟨%d4, %f4, -, H4⟩
  icases HS0 with ⟨%ds0, %fs0, -, HS0⟩
  icases HS1 with ⟨%ds1, %fs1, -, HS1⟩
  obtain rfl := harg2.eq_unread hf0; obtain rfl := harg4.eq_unread hf2
  sl_exec
  sl_step
  iapply Hk
  isplitl [H0]
  · iexists _; isplitr; · ipureintro; exact harg2.read_unread _
    iexact H0
  isplitl [H1]; · iexact H1
  isplitl [H2]
  · iexists _; isplitr; · ipureintro; exact harg4.read_unread _
    iexact H2
  isplitl [H3]
  · iexists _, _; isplitr; swap; · iexact H3
    ipureintro; rfl
  isplitl [H4]
  · iexists _, _; isplitr; swap; · iexact H4
    ipureintro; rfl
  isplitl [HS0]
  · iexists _, _; isplitr; swap; · iexact HS0
    ipureintro; rfl
  iexists _, _; isplitr; swap; · iexact HS1
  ipureintro; rfl

end Cert.Kernel.Gen

end
-- ==== Proof.KernelFrame.lean ====
/- The kernel's frame: every execution ends, nothing faults, the arguments end unchanged and every semaphore counter
   ends at zero. Nothing is said here of what the kernel leaves in its two results. -/
module

public import proofs.«01_k».proof.Proof.KernelRun
public import Idealize.ShloMosaic.Lib.Claim

@[expose] public section

-- membership in a rectangle of production extents: the elaborator's structural look recurses once per coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4): nothing reads what the kernel leaves in them, so nothing
    of it is named (Lib/Pipeline/Dat.lean `Dat.toRForget`). -/
def forgets0 : Fin 5 → Bool := fun w => w.val == 3 || w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d))

set_option maxHeartbeats 1200000 in
/-- The body at any point: the inputs' memrefs hold their blocks (`before0_W`), so the run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩⟩
  iapply (kernelRun c (grid0.coords t) _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_run (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_run m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.KernelIdealScratch.lean ====
/- The body's first part, which fills the two scratch buffers: what it leaves in them, from what it finds.
   The rest of the body (the 112 row groups) only reads them, so it is run once, over any contents. -/
module

public import proofs.«01_k».proof.Proof.Gen.KernelIdeal.Frame
public import proofs.«01_k».proof.Proof.Gen.KernelIdeal.Skeleton
public import Idealize.ShloMosaic.Lib.Pipeline.Value
public import Idealize.ShloMosaic.Lib.Claim

@[expose] public section

-- membership in a rectangle of production extents: the elaborator's structural look recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 100 = 0 :=
  (fun t => by
    have ht : t.val < 100 := Nat.lt_of_lt_of_eq t.isLt N_0
    have e0 : (grid0.coords t 0).val = t.val / 50 % 2 := Pipeline.Grid.coords_val t 0 (by decide) rfl
    have e1 : (grid0.coords t 1).val = t.val / 1 % 50 := Pipeline.Grid.coords_val t 1 (by decide) rfl
    simp only [cond0_0, e0, e1]
    word_cmp
   : ∀ t : Fin grid0.N, cond0_0 (grid0.coords t) ↔ t.val % 100 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 50) — by arithmetic of the point. -/
theorem hcond0_1 : ∀ t : Fin cfg0.N, cond0_1 (grid0.coords t) ↔ t.val % 50 = 0 :=
  (fun t => by
    have ht : t.val < 100 := Nat.lt_of_lt_of_eq t.isLt N_0
    have e0 : (grid0.coords t 0).val = t.val / 50 % 2 := Pipeline.Grid.coords_val t 0 (by decide) rfl
    have e1 : (grid0.coords t 1).val = t.val / 1 % 50 := Pipeline.Grid.coords_val t 1 (by decide) rfl
    simp only [cond0_1, e0, e1]
    word_cmp
   : ∀ t : Fin grid0.N, cond0_1 (grid0.coords t) ↔ t.val % 50 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x896x512 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x896x800 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x896x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x896 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x28 .i8 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S896x896 .bf16 := Memref.whole cc0_scratch0
abbrev scM0_1 : Memref sig .tc .vmem S128x4096 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The offsets of the two scratch windows -/

theorem off1_eq : ∀ i : grid0.Coords, k0_off1 i = ![0, (i 1).val / 8 * 128] := by decide +kernel
theorem off2_eq : ∀ i : grid0.Coords, k0_off2 i = ![0, (i 1).val % 8 * 512] := by decide +kernel

instance closedOff1 (i : grid0.Coords) : ClosedOff (k0_off1 i) := ⟨![0, (i 1).val / 8 * 128], off1_eq i⟩
instance closedOff2 (i : grid0.Coords) : ClosedOff (k0_off2 i) := ⟨![0, (i 1).val % 8 * 512], off2_eq i⟩

/-- What the first part leaves in the table of expanders: filled at the grid's first point, kept elsewhere. -/
def exNext (i : grid0.Coords) (e : Vec F S128x4096 .bf16) : Vec F S128x4096 .bf16 :=
  open Classical in if cond0_0 i then k0_pay2 (F := F) else e

/-- What the padded scales hold before the scales of a batch are written: zeros at the grid's first point. -/
def rsBase (i : grid0.Coords) (r : Vec F S896x896 .bf16) : Vec F S896x896 .bf16 :=
  open Classical in if cond0_0 i then k0_pay3 (F := F) else r

/-- What the first part leaves in the padded scales: at the first column block of a batch the batch's scales lie over
    the first 800 columns. -/
def rsNext (i : grid0.Coords) (x1 : Vec F S1x896x800 .i8) (r : Vec F S896x896 .bf16) : Vec F S896x896 .bf16 :=
  open Classical in if cond0_1 i then
    (Rect.unit (s := S896x896) ![0, 0] S896x800.size inb_S896x896_S896x800_0_0).overlay (rsBase i r) (k0_pay4 x1)
  else rsBase i r

theorem exNext_pos {i : grid0.Coords} (h : cond0_0 i) (e : Vec F S128x4096 .bf16) : exNext i e = k0_pay2 (F := F) := by
  unfold exNext; exact if_pos h
theorem exNext_neg {i : grid0.Coords} (h : ¬cond0_0 i) (e : Vec F S128x4096 .bf16) : exNext i e = e := by
  unfold exNext; exact if_neg h
theorem rsBase_pos {i : grid0.Coords} (h : cond0_0 i) (r : Vec F S896x896 .bf16) : rsBase i r = k0_pay3 (F := F) := by
  unfold rsBase; exact if_pos h
theorem rsBase_neg {i : grid0.Coords} (h : ¬cond0_0 i) (r : Vec F S896x896 .bf16) : rsBase i r = r := by
  unfold rsBase; exact if_neg h
theorem rsNext_pos {i : grid0.Coords} (h : cond0_1 i) (x1 : Vec F S1x896x800 .i8) (r : Vec F S896x896 .bf16) :
    rsNext i x1 r
      = (Rect.unit (s := S896x896) ![0, 0] S896x800.size inb_S896x896_S896x800_0_0).overlay (rsBase i r) (k0_pay4 x1) := by
  unfold rsNext; exact if_pos h
theorem rsNext_neg {i : grid0.Coords} (h : ¬cond0_1 i) (x1 : Vec F S1x896x800 .i8) (r : Vec F S896x896 .bf16) :
    rsNext i x1 r = rsBase i r := by
  unfold rsNext; exact if_neg h

theorem zeros2 : (![0, 0] : Fin 2 → Nat) = fun _ => 0 := by funext a; fin_cases a <;> rfl
theorem zeros3 : (![0, 0, 0] : Fin 3 → Nat) = fun _ => 0 := by funext a; fin_cases a <;> rfl

/-- One write over earlier contents, read back whole: its payload on its rectangle, the earlier contents elsewhere. -/
theorem read_writes_cons_overlay {sig : RefSig} {κ : Kind} {sp : Space} {s : Shape} {e : EltTy} {Val : EltTy → Type}
    (v : View sig κ sp s e) (f : v.ty.Contents Val) (p : View.Piece Val s e) (L : List (View.Piece Val s e)) :
    v.read Val (v.writes Val f (p :: L)) = p.1.overlay (v.read Val (v.writes Val f L)) p.2 := by
  funext y
  by_cases hy : y ∈ p.1.set
  · obtain ⟨r, w⟩ := p
    obtain ⟨x, rfl⟩ : ∃ x, r.emb x = y := r.exists_idx_of_mem hy
    rw [View.read_writes_cons_emb, Rect.overlay_emb]
  · rw [View.read_writes_cons_miss v f p L y hy, Rect.overlay_of_not_mem _ _ _ hy]

/-- An overlay over the whole shape is the payload. -/
theorem overlay_whole {S : Shape} {α : Type} {off : Fin S.rank → Nat} (h : off = fun _ => 0)
    (inb : ∀ a, off a + S.size a ≤ S.size a) (X w : S.Idx → α) : (Rect.unit off S.size inb).overlay X w = w := by
  subst h; funext y
  have e := (Rect.whole S).overlay_emb X w y
  rw [Rect.emb_whole_apply] at e
  exact e

theorem ld_scales (x1 : Vec F S1x896x800 .i8) :
    View.ld x1 (Rect.unit (s := S1x896x800) ![0, 0, 0] ![1, 896, 800] inb_S1x896x800_S1x896x800_0_0_0) = x1 :=
  View.ld_unit_zero zeros3 _ x1
theorem overlay_scales (X w : Vec F S896x896 .bf16) :
    (Rect.unit (s := S896x896) ![0, 0] ![896, 896] inb_S896x896_S896x896_0_0).overlay X w = w := overlay_whole zeros2 _ X w
theorem overlay_expanders (X w : Vec F S128x4096 .bf16) :
    (Rect.unit (s := S128x4096) ![0, 0] ![128, 4096] inb_S128x4096_S128x4096_0_0).overlay X w = w := overlay_whole zeros2 _ X w

set_option maxHeartbeats 1600000 in
/-- The first part, at any grid point, on scratch buffers of any contents. -/
theorem part1_spec (c : Dev nD) (i : grid0.Coords) (arg2 : Memref sig .tc .vmem S1x896x512 .fp8e4m3) (harg2 : arg2.IsWhole) (arg3 : Memref sig .tc .vmem S1x896x800 .i8) (harg3 : arg3.IsWhole) (arg4 : Memref sig .tc .vmem S1x896x512 .bf16) (harg4 : arg4.IsWhole) (arg5 : Memref sig .tc .vmem S1x512x896 .fp8e4m3) (harg5 : arg5.IsWhole) (arg6 : Memref sig .tc .vmem S1x512x28 .i8) (harg6 : arg6.IsWhole) (arg7 : Memref sig .tc .vmem S896x896 .bf16) (harg7 : arg7.IsWhole) (arg8 : Memref sig .tc .vmem S128x4096 .bf16) (harg8 : arg8.IsWhole)
    (x1 : Vec F S1x896x800 .i8) (r : Vec F S896x896 .bf16) (e : Vec F S128x4096 .bf16) (E : Set ℕ) (K : (Σ' (v26 : BitVec 32), BitVec 32) → sProp 𝕄) :
    iprop(owns (c : Thread nD τ) arg3 fullShare x1 ∗ owns (c : Thread nD τ) arg7 fullShare r ∗ owns (c : Thread nD τ) arg8 fullShare e
        ∗ (∀ v, iprop(owns (c : Thread nD τ) arg3 fullShare x1 ∗ owns (c : Thread nD τ) arg7 fullShare (rsNext i x1 r) ∗ owns (c : Thread nD τ) arg8 fullShare (exNext i e)) -∗ K v))
      ⊢ wp frame (wpE (defs₀ (F := F)) Variants.none c none) E (k0_part1 i arg2 harg2 arg3 harg3 arg4 harg4 arg5 harg5 arg6 harg6 arg7 harg7 arg8 harg8) K := by
  rw [k0_part1_eq_skeleton]; unfold k0_part1_skel owns
  iintro ⟨⟨%f1, %hf1, H1⟩, ⟨%fs0, %hfs0, HS0⟩, ⟨%fs1, %hfs1, HS1⟩, Hk⟩
  obtain rfl := harg3.eq_unread hf1; obtain rfl := harg7.eq_unread hfs0; obtain rfl := harg8.eq_unread hfs1
  by_cases hc0 : cond0_0 i <;> by_cases hc1 : cond0_1 i
  all_goals
    sl_exec (disch := first | sl_exact hc0 | sl_exact hc1)
    sl_step
    iapply Hk
    isplitl [H1]
    · iexists _; isplitr; · ipureintro; exact harg3.read_unread _
      iexact H1
    isplitl [HS0]
    · iexists _; isplitr; swap; · iexact HS0
      ipureintro
      first | rw [rsNext_pos hc1] | rw [rsNext_neg hc1]
      first | rw [rsBase_pos hc0] | rw [rsBase_neg hc0]
      simp only [read_writes_cons_overlay, View.writes_nil, harg7.read_unread, View.readAt_eq_ld, harg3.read_unread,
        ld_scales]
      try first
        | exact overlay_scales _ _
        | exact congrArg (fun X => Rect.overlay _ X _) (overlay_scales _ _)
    iexists _; isplitr; swap; · iexact HS1
    ipureintro
    first | rw [exNext_pos hc0] | rw [exNext_neg hc0]
    simp only [read_writes_cons_overlay, View.writes_nil, harg8.read_unread]
    try exact overlay_expanders _ _

end Cert.KernelIdeal.Gen

end
-- ==== Proof.KernelIdealTile.lean ====
/- One row group of the kernel (32 rows by 128 columns), stated once as functions of the row group and the column
   tile, and what the whole body leaves in its two result blocks. -/
module

public import proofs.«01_k».proof.Proof.KernelIdealScratch
public import Idealize.ShloMosaic.Lib.Claim

@[expose] public section

-- membership in a rectangle of production extents: the elaborator's structural look recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The products of one row group: the codes as numbers, times the unpacked scales `q` (three quarters of the scale),
    times the derivative over one and a half of the preactivations. -/
def grpW (q : FVec F S32x128 .f32) (x : Vec F S1x32x128 .fp8e4m3) (p : Vec F S1x32x128 .bf16) : FVec F S32x128 .f32 :=
  have v46 : FVec F S32x128 .f32 := extf .f32 (shapeCast S32x128 x shapeCasts_S1x32x128_S32x128) bitsLt_fp8e4m3_f32
  have v48 : FVec F S32x128 .f32 := mulf v46 q
  have v51 : FVec F S32x128 .f32 := extf .f32 (shapeCast S32x128 p shapeCasts_S1x32x128_S32x128) bitsLt_bf16_f32
  have v52 : FVec F S32x128 .f32 := mulf v51 v51
  have v54 : FVec F S32x128 .f32 := mulf v52 (broadcast S32x128 (Named.named κ "gelu_ck" 0x3D122279#32))
  have v56 : FVec F S32x128 .f32 := addf v54 (broadcast S32x128 (Named.named κ "gelu_c" 0x3F4C422A#32))
  have v58 : FVec F S32x128 .f32 := tanh (mulf v51 v56)
  have v60 : FVec F S32x128 .f32 := addf v54 (broadcast S32x128 (Named.named κ "gelu_c_third" 0x3E882C1C#32))
  have v61 : FVec F S32x128 .f32 := mulf v51 v60
  have v63 : FVec F S32x128 .f32 := addf (broadcast S32x128 (Scalar.ofBits .f32 0x3F800000#32)) v58
  have v65 : FVec F S32x128 .f32 := subf (broadcast S32x128 (Scalar.ofBits .f32 0x3F800000#32)) v58
  have v68 : FVec F S32x128 .f32 := addf (broadcast S32x128 (Named.named κ "third" 0x3EAAAAAB#32)) (mulf v65 v61)
  mulf v48 (mulf v63 v68)

/-- The largest magnitude of each column of a row group, over 448. -/
def grpAmax (w : FVec F S32x128 .f32) : FVec F S1x128 .f32 :=
  mulf (shapeCast S1x128 (multiReduction .maximumf [0] S128 (absf w) 0xFF800000#32 reduces_S32x128_S128 (.inl rfl) rfl)
    shapeCasts_S128_S1x128) (broadcast S1x128 (Scalar.ofBits .f32 0x3B124925#32))

/-- The exponent field of that, counted off: how many of the 255 powers of two with a field of 1, …, 255 it reaches. -/
def grpCount (w : FVec F S32x128 .f32) : IVec S1x128 32 :=
  have v78 : IVec S255x128 32 :=
    shli (addi (iota .tc S255x128 32 [0] iota_S255x128_d0_w32) (broadcast S255x128 1#32)) (broadcast S255x128 23#32)
  have v83 : IVec S255x128 1 :=
    cmpf .oge (broadcastTo S255x128 (grpAmax w) broadcasts_S1x128_S255x128) (bitcastToFloat .f32 v78)
  shapeCast S1x128 (multiReductionI .add [0] S128 (extui 32 v83 natLt_1_32) 0#32 reduces_S255x128_S128 rfl) shapeCasts_S128_S1x128

/-- The field, 125 in place of zero. -/
def grpField (w : FVec F S32x128 .f32) : IVec S1x128 32 :=
  select (cmpi .eq (grpCount w) (broadcast S1x128 0#32)) (broadcast S1x128 125#32) (grpCount w)

/-- The codes of a row group: the products times the power of two of field `253 − field`, clipped to ±448. -/
def grpCodes (w : FVec F S32x128 .f32) : FVec F S32x128 .fp8e4m3 :=
  have v95 : FVec F S1x128 .f32 :=
    bitcastToFloat .f32 (shli (subi (broadcast S1x128 253#32) (grpField w)) (broadcast S1x128 23#32))
  have v97 : FVec F S32x128 .f32 := mulf w (broadcastTo S32x128 v95 broadcasts_S1x128_S32x128)
  truncf .fp8e4m3 (minimumf (broadcast S32x128 (Scalar.ofBits .f32 0x43E00000#32))
    (maximumf (broadcast S32x128 (Scalar.ofBits .f32 0xC3E00000#32)) v97)) bitsLt_fp8e4m3_f32

/-- The stored exponents of a row group: the field plus two. -/
def grpScale (w : FVec F S32x128 .f32) : IVec S1x128 32 := addi (grpField w) (broadcast S1x128 2#32)

/-- A column tile's codes: its 28 row groups one under the other, transposed. -/
def tileCodes (f : Fin 28 → FVec F S32x128 .fp8e4m3) : FVec F S1x128x896 .fp8e4m3 :=
  shapeCast S1x128x896 (transpose S128x896 [1, 0]
    (concatenate S896x128 0 [⟨S32x128, f 0⟩, ⟨S32x128, f 1⟩, ⟨S32x128, f 2⟩, ⟨S32x128, f 3⟩, ⟨S32x128, f 4⟩, ⟨S32x128, f 5⟩, ⟨S32x128, f 6⟩, ⟨S32x128, f 7⟩, ⟨S32x128, f 8⟩, ⟨S32x128, f 9⟩, ⟨S32x128, f 10⟩, ⟨S32x128, f 11⟩, ⟨S32x128, f 12⟩, ⟨S32x128, f 13⟩, ⟨S32x128, f 14⟩, ⟨S32x128, f 15⟩, ⟨S32x128, f 16⟩, ⟨S32x128, f 17⟩, ⟨S32x128, f 18⟩, ⟨S32x128, f 19⟩, ⟨S32x128, f 20⟩, ⟨S32x128, f 21⟩, ⟨S32x128, f 22⟩, ⟨S32x128, f 23⟩, ⟨S32x128, f 24⟩, ⟨S32x128, f 25⟩, ⟨S32x128, f 26⟩, ⟨S32x128, f 27⟩] concatenates_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S896x128_d0)
    transposes_S896x128_p1_0_S128x896) shapeCasts_S128x896_S1x128x896

/-- A column tile's stored exponents: its 28 row groups' one under the other, transposed, cut to bytes. -/
def tileScale (f : Fin 28 → IVec S1x128 32) : IVec S1x128x28 8 :=
  shapeCast S1x128x28 (trunci 8 (transpose S128x28 [1, 0]
    (concatenate S28x128 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩, ⟨S1x128, f 8⟩, ⟨S1x128, f 9⟩, ⟨S1x128, f 10⟩, ⟨S1x128, f 11⟩, ⟨S1x128, f 12⟩, ⟨S1x128, f 13⟩, ⟨S1x128, f 14⟩, ⟨S1x128, f 15⟩, ⟨S1x128, f 16⟩, ⟨S1x128, f 17⟩, ⟨S1x128, f 18⟩, ⟨S1x128, f 19⟩, ⟨S1x128, f 20⟩, ⟨S1x128, f 21⟩, ⟨S1x128, f 22⟩, ⟨S1x128, f 23⟩, ⟨S1x128, f 24⟩, ⟨S1x128, f 25⟩, ⟨S1x128, f 26⟩, ⟨S1x128, f 27⟩] concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S28x128_d0)
    transposes_S28x128_p1_0_S128x28) natLt_8_32) shapeCasts_S128x28_S1x128x28

theorem grp_inb (cc : Fin 4) (g : Fin 28) :
    ∀ a, (![0, 32 * g.val, 128 * cc.val] : Fin 3 → Nat) a + S1x32x128.size a ≤ S1x896x512.size a := by
  have := g.isLt; have := cc.isLt
  intro a; fin_cases a <;> simp [S1x32x128, S1x896x512] <;> omega

theorem grp_slices (cc : Fin 4) (g : Fin 28) : S896x512.Slices ![32 * g.val, 128 * cc.val] S32x128 := by
  have := g.isLt; have := cc.isLt
  refine ⟨rfl, ?_⟩
  intro a; fin_cases a <;> simp [S32x128, S896x512] <;> omega

/-- The products of row group `g` of column tile `cc`, from the block's unpacked scales, codes and preactivations. -/
def wAt (q : FVec F S896x512 .f32) (x0 : Vec F S1x896x512 .fp8e4m3) (x2 : Vec F S1x896x512 .bf16) (cc : Fin 4) (g : Fin 28) :
    FVec F S32x128 .f32 :=
  grpW (extractStridedSlice S32x128 ![32 * g.val, 128 * cc.val] q (grp_slices cc g))
    (View.ld x0 (Rect.unit (s := S1x896x512) ![0, 32 * g.val, 128 * cc.val] S1x32x128.size (grp_inb cc g)))
    (View.ld x2 (Rect.unit (s := S1x896x512) ![0, 32 * g.val, 128 * cc.val] S1x32x128.size (grp_inb cc g)))

/-- The block's unpacked scales: the window of the padded scales the column block reads, times the window of expanders. -/
def unpacked (i : grid0.Coords) (r : Vec F S896x896 .bf16) (e : Vec F S128x4096 .bf16) : FVec F S896x512 .f32 :=
  k0_pay5 (View.ld r (Rect.unit (s := S896x896) (k0_off1 i) S896x128.size (k0_off1_inb i)))
    (View.ld e (Rect.unit (s := S128x4096) (k0_off2 i) S128x512.size (k0_off2_inb i)))

/-- What the body leaves in the block of codes: the four column tiles. -/
def outCodes (q : FVec F S896x512 .f32) (x0 : Vec F S1x896x512 .fp8e4m3) (x2 : Vec F S1x896x512 .bf16) : Vec F S1x512x896 .fp8e4m3 :=
  View.canon [⟨Rect.unit (s := S1x512x896) ![0, 384, 0] S1x128x896.size inb_S1x512x896_S1x128x896_0_384_0, tileCodes fun g => grpCodes (wAt q x0 x2 3 g)⟩,
    ⟨Rect.unit (s := S1x512x896) ![0, 256, 0] S1x128x896.size inb_S1x512x896_S1x128x896_0_256_0, tileCodes fun g => grpCodes (wAt q x0 x2 2 g)⟩,
    ⟨Rect.unit (s := S1x512x896) ![0, 128, 0] S1x128x896.size inb_S1x512x896_S1x128x896_0_128_0, tileCodes fun g => grpCodes (wAt q x0 x2 1 g)⟩,
    ⟨Rect.unit (s := S1x512x896) ![0, 0, 0] S1x128x896.size inb_S1x512x896_S1x128x896_0_0_0, tileCodes fun g => grpCodes (wAt q x0 x2 0 g)⟩]

/-- What the body leaves in the block of stored exponents: the four column tiles. -/
def outScale (q : FVec F S896x512 .f32) (x0 : Vec F S1x896x512 .fp8e4m3) (x2 : Vec F S1x896x512 .bf16) : Vec F S1x512x28 .i8 :=
  View.canon [⟨Rect.unit (s := S1x512x28) ![0, 384, 0] S1x128x28.size inb_S1x512x28_S1x128x28_0_384_0, tileScale fun g => grpScale (wAt q x0 x2 3 g)⟩,
    ⟨Rect.unit (s := S1x512x28) ![0, 256, 0] S1x128x28.size inb_S1x512x28_S1x128x28_0_256_0, tileScale fun g => grpScale (wAt q x0 x2 2 g)⟩,
    ⟨Rect.unit (s := S1x512x28) ![0, 128, 0] S1x128x28.size inb_S1x512x28_S1x128x28_0_128_0, tileScale fun g => grpScale (wAt q x0 x2 1 g)⟩,
    ⟨Rect.unit (s := S1x512x28) ![0, 0, 0] S1x128x28.size inb_S1x512x28_S1x128x28_0_0_0, tileScale fun g => grpScale (wAt q x0 x2 0 g)⟩]

end Cert.KernelIdeal.Gen

end
-- ==== Proof.KernelIdealRun.lean ====
/- The whole body at a grid point: the first part, then the 112 row groups in four tiles, run once over any contents of
   the scratch buffers. -/
module

public import proofs.«01_k».proof.Proof.KernelIdealTile
public import Idealize.ShloMosaic.Lib.Claim

@[expose] public section

-- membership in a rectangle of production extents: the elaborator's structural look recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The four column tiles cover the block. -/
theorem cover5 (p0 p1 p2 p3 : Vec F S1x128x896 .fp8e4m3) (y : S1x512x896.Idx) :
    ∃ p ∈ ([⟨Rect.unit (s := S1x512x896) ![0, 384, 0] S1x128x896.size inb_S1x512x896_S1x128x896_0_384_0, p3⟩, ⟨Rect.unit (s := S1x512x896) ![0, 256, 0] S1x128x896.size inb_S1x512x896_S1x128x896_0_256_0, p2⟩, ⟨Rect.unit (s := S1x512x896) ![0, 128, 0] S1x128x896.size inb_S1x512x896_S1x128x896_0_128_0, p1⟩, ⟨Rect.unit (s := S1x512x896) ![0, 0, 0] S1x128x896.size inb_S1x512x896_S1x128x896_0_0_0, p0⟩] : List (View.Piece (Elt F) S1x512x896 .fp8e4m3)), y ∈ p.1.set :=
  View.cover_of_tiled [⟨Rect.unit (s := S1x512x896) ![0, 384, 0] S1x128x896.size inb_S1x512x896_S1x128x896_0_384_0, p3⟩, ⟨Rect.unit (s := S1x512x896) ![0, 256, 0] S1x128x896.size inb_S1x512x896_S1x128x896_0_256_0, p2⟩, ⟨Rect.unit (s := S1x512x896) ![0, 128, 0] S1x128x896.size inb_S1x512x896_S1x128x896_0_128_0, p1⟩, ⟨Rect.unit (s := S1x512x896) ![0, 0, 0] S1x128x896.size inb_S1x512x896_S1x128x896_0_0_0, p0⟩] S1x128x896.size (by rfl) y

/-- The four column tiles cover the block. -/
theorem cover6 (p0 p1 p2 p3 : Vec F S1x128x28 .i8) (y : S1x512x28.Idx) :
    ∃ p ∈ ([⟨Rect.unit (s := S1x512x28) ![0, 384, 0] S1x128x28.size inb_S1x512x28_S1x128x28_0_384_0, p3⟩, ⟨Rect.unit (s := S1x512x28) ![0, 256, 0] S1x128x28.size inb_S1x512x28_S1x128x28_0_256_0, p2⟩, ⟨Rect.unit (s := S1x512x28) ![0, 128, 0] S1x128x28.size inb_S1x512x28_S1x128x28_0_128_0, p1⟩, ⟨Rect.unit (s := S1x512x28) ![0, 0, 0] S1x128x28.size inb_S1x512x28_S1x128x28_0_0_0, p0⟩] : List (View.Piece (Elt F) S1x512x28 .i8)), y ∈ p.1.set :=
  View.cover_of_tiled [⟨Rect.unit (s := S1x512x28) ![0, 384, 0] S1x128x28.size inb_S1x512x28_S1x128x28_0_384_0, p3⟩, ⟨Rect.unit (s := S1x512x28) ![0, 256, 0] S1x128x28.size inb_S1x512x28_S1x128x28_0_256_0, p2⟩, ⟨Rect.unit (s := S1x512x28) ![0, 128, 0] S1x128x28.size inb_S1x512x28_S1x128x28_0_128_0, p1⟩, ⟨Rect.unit (s := S1x512x28) ![0, 0, 0] S1x128x28.size inb_S1x512x28_S1x128x28_0_0_0, p0⟩] S1x128x28.size (by rfl) y

set_option maxHeartbeats 16000000 in
/-- The body: from the inputs' memrefs and the scratch at their contents and the outputs at anything, it runs to the
    continuation holding the inputs' as they were, the outputs at `outCodes` and `outScale`, the scratch as the first
    part leaves it. -/
theorem kernelRun (c : Dev nD) (i : grid0.Coords) (arg2 : Memref sig .tc .vmem S1x896x512 .fp8e4m3) (harg2 : arg2.IsWhole) (arg3 : Memref sig .tc .vmem S1x896x800 .i8) (harg3 : arg3.IsWhole) (arg4 : Memref sig .tc .vmem S1x896x512 .bf16) (harg4 : arg4.IsWhole) (arg5 : Memref sig .tc .vmem S1x512x896 .fp8e4m3) (harg5 : arg5.IsWhole) (arg6 : Memref sig .tc .vmem S1x512x28 .i8) (harg6 : arg6.IsWhole) (arg7 : Memref sig .tc .vmem S896x896 .bf16) (harg7 : arg7.IsWhole) (arg8 : Memref sig .tc .vmem S128x4096 .bf16) (harg8 : arg8.IsWhole)
    (x0 : Vec F S1x896x512 .fp8e4m3) (x1 : Vec F S1x896x800 .i8) (x2 : Vec F S1x896x512 .bf16) (r : Vec F S896x896 .bf16) (e : Vec F S128x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare r ∗ owns (c : Thread nD τ) arg8 fullShare e
        ∗ (iprop(owns (c : Thread nD τ) arg2 fullShare x0 ∗ owns (c : Thread nD τ) arg3 fullShare x1 ∗ owns (c : Thread nD τ) arg4 fullShare x2
            ∗ owns (c : Thread nD τ) arg5 fullShare (outCodes (unpacked i (rsNext i x1 r) (exNext i e)) x0 x2) ∗ owns (c : Thread nD τ) arg6 fullShare (outScale (unpacked i (rsNext i x1 r) (exNext i e)) x0 x2)
            ∗ owns (c : Thread nD τ) arg7 fullShare (rsNext i x1 r) ∗ owns (c : Thread nD τ) arg8 fullShare (exNext i e)) -∗ K ⟨⟩))
      ⊢ wp frame (wpE (defs₀ (F := F)) Variants.none c none) E (cc0_dgelu_cast_transpose i arg2 harg2 arg3 harg3 arg4 harg4 arg5 harg5 arg6 harg6 arg7 harg7 arg8 harg8) K := by
  simp only [cc0_dgelu_cast_transpose_eq_skeleton]; unfold cc0_dgelu_cast_transpose_skel
  simp only [k0_part162_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part163_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton]
  unfold k0_part162_skel
  rw [wp_bind, wp_bind]
  iintro ⟨H0, H1, H2, H3, H4, HS0, HS1, Hk⟩
  iapply (part1_spec c i arg2 harg2 arg3 harg3 arg4 harg4 arg5 harg5 arg6 harg6 arg7 harg7 arg8 harg8 x1 r e E _)
  isplitl [H1]; · iexact H1
  isplitl [HS0]; · iexact HS0
  isplitl [HS1]; · iexact HS1
  iintro %v ⟨H1, HS0, HS1⟩
  generalize rsNext i x1 r = r'
  generalize exNext i e = e'
  unfold owns
  icases H0 with ⟨%f0, %hf0, H0⟩
  icases H2 with ⟨%f2, %hf2, H2⟩
  icases H3 with ⟨%d3, %f3, -, H3⟩
  icases H4 with ⟨%d4, %f4, -, H4⟩
  icases HS0 with ⟨%fs0, %hfs0, HS0⟩
  icases HS1 with ⟨%fs1, %hfs1, HS1⟩
  obtain rfl := harg2.eq_unread hf0; obtain rfl := harg4.eq_unread hf2
  obtain rfl := harg7.eq_unread hfs0; obtain rfl := harg8.eq_unread hfs1
  sl_exec
  sl_step
  iapply Hk
  isplitl [H0]
  · iexists _; isplitr; · ipureintro; exact harg2.read_unread _
    iexact H0
  isplitl [H1]; · iexact H1
  isplitl [H2]
  · iexists _; isplitr; · ipureintro; exact harg4.read_unread _
    iexact H2
  isplitl [H3]
  · iexists _; isplitr; swap; · iexact H3
    ipureintro
    refine (View.read_writes_eq_canon _ _ _ (cover5 _ _ _ _)).trans ?_
    refine Eq.trans (b := outCodes (unpacked i (arg7.view.read (Elt F) (harg7.unread r')) (arg8.view.read (Elt F) (harg8.unread e')))
      (arg2.view.read (Elt F) (harg2.unread x0)) (arg4.view.read (Elt F) (harg4.unread x2))) ?_
      (by rw [harg2.read_unread, harg4.read_unread, harg7.read_unread, harg8.read_unread])
    rfl
  isplitl [H4]
  · iexists _; isplitr; swap; · iexact H4
    ipureintro
    refine (View.read_writes_eq_canon _ _ _ (cover6 _ _ _ _)).trans ?_
    refine Eq.trans (b := outScale (unpacked i (arg7.view.read (Elt F) (harg7.unread r')) (arg8.view.read (Elt F) (harg8.unread e')))
      (arg2.view.read (Elt F) (harg2.unread x0)) (arg4.view.read (Elt F) (harg4.unread x2))) ?_
      (by rw [harg2.read_unread, harg4.read_unread, harg7.read_unread, harg8.read_unread])
    rfl
  isplitl [HS0]
  · iexists _; isplitr; · ipureintro; exact harg7.read_unread _
    iexact HS0
  iexists _; isplitr; · ipureintro; exact harg8.read_unread _
  iexact HS1

end Cert.KernelIdeal.Gen

end
-- ==== Proof.KernelIdealFrame.lean ====
/- The ideal kernel's run: every execution ends, nothing faults, the arguments end unchanged, every semaphore counter ends
   at zero, and each block of the two results is named, from the blocks of the arguments that its grid point reads. The
   two scratch buffers are tracked from point to point. -/
module

public import proofs.«01_k».proof.Proof.KernelIdealRun
public import Idealize.ShloMosaic.Lib.Claim

@[expose] public section

-- membership in a rectangle of production extents: the elaborator's structural look recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid's points -/

/-- The batch of a point. -/
theorem coords0 (t : Fin cfg0.N) : (grid0.coords t 0).val = t.val / 50 := by
  have ht : t.val < 100 := Nat.lt_of_lt_of_eq t.isLt N_0
  have e0 : (grid0.coords t 0).val = t.val / 50 % 2 := Pipeline.Grid.coords_val t 0 (by decide) rfl
  omega
/-- The block of channels of a point. -/
theorem coords1 (t : Fin cfg0.N) : (grid0.coords t 1).val = t.val % 50 := by
  have e1 : (grid0.coords t 1).val = t.val / 1 % 50 := Pipeline.Grid.coords_val t 1 (by decide) rfl
  omega

/-! ## The block index maps at a point -/

theorem idx0_0 : ∀ t : Fin grid0.N, cc0_transform_0 (grid0.coords t) = ![t.val / 50, 0, t.val % 50] := by decide +kernel
theorem idx0_1 : ∀ t : Fin grid0.N, cc0_transform_1 (grid0.coords t) = ![t.val / 50, 0, 0] := by decide +kernel
theorem idx0_2 : ∀ t : Fin grid0.N, cc0_transform_2 (grid0.coords t) = ![t.val / 50, 0, t.val % 50] := by decide +kernel
theorem idx0_3 : ∀ t : Fin grid0.N, cc0_transform_3 (grid0.coords t) = ![t.val / 50, t.val % 50, 0] := by decide +kernel
theorem idx0_4 : ∀ t : Fin grid0.N, cc0_transform_4 (grid0.coords t) = ![t.val / 50, t.val % 50, 0] := by decide +kernel

/-- The block of scale bytes is the same at all points of a batch. -/
theorem iblk1_congr (c : Dev nD) (t t' : Fin cfg0.N) (h : t.val / 50 = t'.val / 50) :
    (iblk m c 1 t : Vec F S1x896x800 .i8) = iblk m c 1 t' := by
  funext j
  show V m c main_arg1 ((win0_1.rect t).emb j) = V m c main_arg1 ((win0_1.rect t').emb j)
  congr 1
  funext a
  apply Fin.ext
  rw [Pipeline.Window.rect_emb_val win0_1, Pipeline.Window.rect_emb_val win0_1]
  show cc0_transform_1 (grid0.coords t) a * _ + _ = cc0_transform_1 (grid0.coords t') a * _ + _
  rw [idx0_1, idx0_1, h]

/-! ## The two scratch buffers after a point -/

/-- The padded scales after point `t`: the batch's scales over the first 800 columns of zeros. -/
def scalesAt (c : Dev nD) (t : Fin cfg0.N) : Vec F S896x896 .bf16 :=
  (Rect.unit (s := S896x896) ![0, 0] S896x800.size inb_S896x896_S896x800_0_0).overlay (k0_pay3 (F := F)) (k0_pay4 (iblk m c 1 t))

/-- An overlay of an overlay on the same rectangle is the second alone. -/
theorem overlay_overlay {S : Shape} {α : Type} (r : Rect S) (X : S.Idx → α) (u w : r.shape.Idx → α) :
    r.overlay (r.overlay X u) w = r.overlay X w := by
  funext y
  by_cases hy : y ∈ r.set
  · obtain ⟨x, rfl⟩ : ∃ x, r.emb x = y := r.exists_idx_of_mem hy
    rw [Rect.overlay_emb, Rect.overlay_emb]
  · rw [Rect.overlay_of_not_mem _ _ _ hy, Rect.overlay_of_not_mem _ _ _ hy, Rect.overlay_of_not_mem _ _ _ hy]

/-- At the first point the first part leaves the padded scales of that point, whatever it finds. -/
theorem rsNext_first (c : Dev nD) (t : Fin cfg0.N) (ht : t.val = 0) (r : Vec F S896x896 .bf16) :
    rsNext (grid0.coords t) (iblk m c 1 t) r = scalesAt m c t := by
  rw [rsNext_pos ((hcond0_1 t).mpr (by omega)), rsBase_pos ((hcond0_0 t).mpr (by omega))]; rfl

/-- At a later point it leaves those of that point, from those of the point before. -/
theorem rsNext_later (c : Dev nD) (t t' : Fin cfg0.N) (ht : t.val = t'.val + 1) :
    rsNext (grid0.coords t) (iblk m c 1 t) (scalesAt m c t') = scalesAt m c t := by
  have hN : t.val < 100 := Nat.lt_of_lt_of_eq t.isLt N_0
  have h0 : ¬cond0_0 (grid0.coords t) := fun h => by have := (hcond0_0 t).mp h; omega
  by_cases h1 : t.val % 50 = 0
  · rw [rsNext_pos ((hcond0_1 t).mpr h1), rsBase_neg h0]
    exact overlay_overlay _ _ _ _
  · rw [rsNext_neg (fun h => h1 ((hcond0_1 t).mp h)), rsBase_neg h0]
    unfold scalesAt
    rw [iblk1_congr m c t' t (by omega)]

/-- What the two scratch buffers hold before point `t` (`t` = 100: after the last): anything before the first, then the
    padded scales of the point before and the table of expanders. -/
def track (c : Dev nD) (t : Fin (cfg0.N + 1)) : sProp 𝕄 :=
  if h : t.val = 0 then Pipeline.ΦA spec0 c
  else iprop(iprop(owns (c : Thread nD τ) scM0_0 fullShare (scalesAt m c ⟨t.val - 1, by have := t.isLt; omega⟩)
      ∗ owns (c : Thread nD τ) scM0_1 fullShare (k0_pay2 (F := F))) ∗ (∃ r, prngReg c r))

theorem track_zero (c : Dev nD) (t : Fin (cfg0.N + 1)) (h : t.val = 0) : track m c t = Pipeline.ΦA spec0 c := by
  unfold track; exact dif_pos h
theorem track_succ (c : Dev nD) (t : Fin (cfg0.N + 1)) (t' : Fin cfg0.N) (h : t.val = t'.val + 1) :
    track m c t = iprop(iprop(owns (c : Thread nD τ) scM0_0 fullShare (scalesAt m c t')
      ∗ owns (c : Thread nD τ) scM0_1 fullShare (k0_pay2 (F := F))) ∗ (∃ r, prngReg c r)) := by
  unfold track
  rw [dif_neg (by omega), show (⟨t.val - 1, by have := t.isLt; omega⟩ : Fin cfg0.N) = t' from Fin.ext (by simp only; omega)]

/-! ## The pipeline's proof data -/

/-- The unpacked scales of point `t`'s block. -/
def qAt (c : Dev nD) (t : Fin cfg0.N) : FVec F S896x512 .f32 := unpacked (grid0.coords t) (scalesAt m c t) (k0_pay2 (F := F))
/-- What the body leaves at point `t` in the block of codes, and in the block of stored exponents. -/
def codesAt (c : Dev nD) (t : Fin cfg0.N) : Vec F S1x512x896 .fp8e4m3 := outCodes (qAt m c t) (iblk m c 0 t) (iblk m c 2 t)
/-- The stored exponents that a point leaves. -/
def scaleAt (c : Dev nD) (t : Fin cfg0.N) : Vec F S1x512x28 .i8 := outScale (qAt m c t) (iblk m c 0 t) (iblk m c 2 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => codesAt m c t
    | ⟨4, _⟩ => scaleAt m c t
  Φ t := track m c t
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = codesAt m c t := by dsimp only [dats]
theorem after0_4 (c : Dev nD) (t : Fin cfg0.N) : (dats m 0 c).after 4 t = scaleAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The invariant before point `t`, as what the body needs: the scratch at some contents from which the first part
    makes those after point `t`. -/
theorem track_open (c : Dev nD) (t : Fin cfg0.N) :
    track m c t.castSucc ⊢ iprop(∃ r e, ⌜rsNext (grid0.coords t) (iblk m c 1 t) r = scalesAt m c t ∧ exNext (grid0.coords t) e = k0_pay2 (F := F)⌝
      ∗ owns (c : Thread nD τ) scM0_0 fullShare r ∗ owns (c : Thread nD τ) scM0_1 fullShare e ∗ (∃ r, prngReg c r)) := by
  have hN : t.val < 100 := Nat.lt_of_lt_of_eq t.isLt N_0
  by_cases h : t.val = 0
  · rw [track_zero m c t.castSucc h, PhiA0_eq]
    iintro ⟨⟨⟨%r, HS0⟩, ⟨%e, HS1⟩⟩, Hg⟩
    iexists r; iexists e
    isplitr
    · ipureintro
      exact ⟨rsNext_first m c t h r, exNext_pos ((hcond0_0 t).mpr (by omega)) e⟩
    isplitl [HS0]; · iexact HS0
    isplitl [HS1]; · iexact HS1
    iexact Hg
  · rw [track_succ m c t.castSucc ⟨t.val - 1, by have := t.isLt; omega⟩ (show t.val = t.val - 1 + 1 by omega)]
    iintro ⟨⟨HS0, HS1⟩, Hg⟩
    iexists (scalesAt m c ⟨t.val - 1, by have := t.isLt; omega⟩); iexists (k0_pay2 (F := F))
    isplitr
    · ipureintro
      exact ⟨rsNext_later m c t _ (show t.val = t.val - 1 + 1 by omega), exNext_neg (fun hc => by have := (hcond0_0 t).mp hc; omega) _⟩
    isplitl [HS0]; · iexact HS0
    isplitl [HS1]; · iexact HS1
    iexact Hg

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3, after0_4]
  rw [show (dats m 0 c).Φ t.castSucc = track m c t.castSucc from rfl, show (dats m 0 c).Φ t.succ = track m c t.succ from rfl,
    track_succ m c t.succ t rfl]
  unfold codesAt scaleAt qAt
  iintro ⟨HΦ, Ho, ⟨%d0, H0⟩, ⟨%d1, H1⟩, ⟨%d2, H2⟩, ⟨%d3, H3⟩, ⟨%d4, H4⟩⟩
  ihave HΦ := (track_open m c t) $$ HΦ
  icases HΦ with ⟨%r, %e, %hre, HS0, HS1, Hg⟩
  iapply (kernelRun c (grid0.coords t) _ _ _ _ _ _ _ _ _ _ _ _ _ _ (iblk m c 0 t) (iblk m c 1 t) (iblk m c 2 t) r e Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  rw [hre.1, hre.2]
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem track_in (c : Dev nD) : Pipeline.ΦA spec0 c ⊢ track m c 0 := by
  rw [track_zero m c 0 rfl]
theorem track_out (c : Dev nD) : track m c (Fin.last cfg0.N) ⊢ Pipeline.ΦA spec0 c := by
  rw [track_succ m c (Fin.last cfg0.N) ⟨99, by decide⟩ N_0, PhiA0_eq]
  iintro ⟨⟨HS0, HS1⟩, Hg⟩
  isplitl [HS0 HS1]
  · isplitl [HS0]
    · iexists _; iexact HS0
    iexists _; iexact HS1
  iexact Hg

-- the implicit arguments are found by unifying the conclusion with this one, which takes unfolding plain
-- definitions in a metavariable's type
set_option backward.isDefEq.respectTransparency.types false in
/-- Every execution ends with each result at the blocks named above, every other array as the region found it, and every
    semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := track_in m) (hout := track_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Deriv.lean ====
/- The derivative of the tanh form of GELU over the extended reals: the kernel's factored form is two thirds of the plain
   one, and the plain one stays below 7/4 in magnitude. -/
module

public import Idealize.ShloMosaic.PureOps.Ideal.Laws
public import Mathlib.Analysis.SpecialFunctions.Trigonometric.DerivHyp

@[expose] public section

noncomputable section

namespace Cert.Scalar

open Idealize.ShloMosaic

/-- The two constants of the tanh form. -/
def C : ℝ := 3989422804014327 / 5000000000000000
/-- The cubic coefficient. -/
def K : ℝ := 8943 / 200000

theorem C_pos : 0 < C := by unfold C; norm_num
theorem K_pos : 0 < K := by unfold K; norm_num

/-- `|u| · (1 − tanh² u)` is at most 1/2. -/
theorem abs_mul_sech_sq_le (u : ℝ) : |u| * (1 - Real.tanh u ^ 2) ≤ 1 / 2 := by
  have hc : 0 < Real.cosh u := Real.cosh_pos u
  have e : 1 - Real.tanh u ^ 2 = 1 / Real.cosh u ^ 2 := by
    rw [Real.tanh_eq_sinh_div_cosh, div_pow]
    have := Real.cosh_sq u
    field_simp; linarith
  have h1 : |u| ≤ |Real.sinh u| := by
    rw [Real.abs_sinh]; exact Real.self_le_sinh_iff.mpr (abs_nonneg u)
  have h2 : Real.cosh u ^ 2 = |Real.sinh u| ^ 2 + 1 := by rw [sq_abs]; exact Real.cosh_sq u
  rw [e, mul_one_div, div_le_iff₀ (by positivity), h2]
  nlinarith [sq_nonneg (|Real.sinh u| - 1)]

/-- The hyperbolic tangent is between -1 and 1. -/
theorem tanh_bounds (u : ℝ) : -1 ≤ Real.tanh u ∧ Real.tanh u ≤ 1 :=
  ⟨(Real.neg_one_lt_tanh u).le, (Real.tanh_lt_one u).le⟩

/-- The derivative at a real preactivation. -/
def dReal (p : ℝ) : ℝ :=
  1 / 2 * (1 + Real.tanh (C * (p + K * p * p * p)))
    + 1 / 2 * p * (1 - Real.tanh (C * (p + K * p * p * p)) * Real.tanh (C * (p + K * p * p * p))) * C * (1 + 3 * K * p * p)

/-- The derivative is at most 7/4 in magnitude. -/
theorem abs_dReal_le (p : ℝ) : |dReal p| ≤ 7 / 4 := by
  unfold dReal
  set u := C * (p + K * p * p * p) with hu
  set t := Real.tanh u with ht
  have hb := tanh_bounds u
  have hs : 0 ≤ 1 - t * t := by nlinarith [hb.1, hb.2]
  have h1 : |1 / 2 * (1 + t)| ≤ 1 := by rw [abs_le]; constructor <;> linarith [hb.1, hb.2]
  have hp : |p| * C * (1 + 3 * K * p * p) ≤ 3 * |u| := by
    have : |u| = C * (|p| * (1 + K * p * p)) := by
      rw [hu, abs_mul, abs_of_pos C_pos, show p + K * p * p * p = p * (1 + K * p * p) by ring, abs_mul,
        abs_of_nonneg (show 0 ≤ 1 + K * p * p by nlinarith [K_pos, mul_self_nonneg p])]
    rw [this]
    nlinarith [mul_nonneg C_pos.le (abs_nonneg p), abs_nonneg p]
  have hle := abs_mul_sech_sq_le u
  have h2 : |1 / 2 * p * (1 - t * t) * C * (1 + 3 * K * p * p)| ≤ 3 / 4 := by
    have e : |1 / 2 * p * (1 - t * t) * C * (1 + 3 * K * p * p)| = 1 / 2 * (1 - t * t) * (|p| * C * (1 + 3 * K * p * p)) := by
      rw [abs_mul, abs_mul, abs_mul, abs_mul, abs_of_nonneg hs, abs_of_pos C_pos,
        abs_of_nonneg (show 0 ≤ 1 + 3 * K * p * p by nlinarith [K_pos, mul_self_nonneg p]), abs_of_pos (by norm_num : (0 : ℝ) < 1 / 2)]
      ring
    rw [e]
    calc 1 / 2 * (1 - t * t) * (|p| * C * (1 + 3 * K * p * p)) ≤ 1 / 2 * (1 - t * t) * (3 * |u|) :=
          mul_le_mul_of_nonneg_left hp (by linarith)
      _ = 3 / 2 * (|u| * (1 - t ^ 2)) := by ring
      _ ≤ 3 / 4 := by linarith
  exact (abs_add_le _ _).trans (by linarith)

/-- The kernel's form of the derivative over the extended reals, two thirds of it. -/
def kD (p : EReal) : EReal :=
  (1 + Ideal.tanh (p * (p * p * ((35677408136300126361 / 1000000000000000000000 : ℝ) : EReal) + ((3989422804014327 / 5000000000000000 : ℝ) : EReal))))
    * (((1 / 3 : ℝ) : EReal)
      + (1 - Ideal.tanh (p * (p * p * ((35677408136300126361 / 1000000000000000000000 : ℝ) : EReal) + ((3989422804014327 / 5000000000000000 : ℝ) : EReal))))
        * (p * (p * p * ((35677408136300126361 / 1000000000000000000000 : ℝ) : EReal) + ((1329807601338109 / 5000000000000000 : ℝ) : EReal))))

/-- The plain form over the extended reals, from its tanh. -/
def rD (p t : EReal) : EReal :=
  ((1 / 2 : ℝ) : EReal) * (1 + t)
    + ((1 / 2 : ℝ) : EReal) * p * (1 - t * t) * ((3989422804014327 / 5000000000000000 : ℝ) : EReal)
      * (1 + ((26829 / 200000 : ℝ) : EReal) * p * p)

/-- The plain form's tanh. -/
def rT (p : EReal) : EReal :=
  Ideal.tanh (((3989422804014327 / 5000000000000000 : ℝ) : EReal) * (p + ((8943 / 200000 : ℝ) : EReal) * p * p * p))

/-- At every extended real the two forms are the real numbers `4/3 · h` and `2 · h` of one `h` of magnitude at most 7/8. -/
theorem deriv_agree (p : EReal) :
    ∃ h : ℝ, |h| ≤ 7 / 8 ∧ kD p = ((4 / 3 * h : ℝ) : EReal) ∧ rD p (rT p) = ((2 * h : ℝ) : EReal) := by
  induction p using EReal.rec with
  | bot =>
    refine ⟨0, by norm_num, ?_, ?_⟩
    · have e : Ideal.tanh ((⊥ : EReal) * (⊥ * ⊥ * ((35677408136300126361 / 1000000000000000000000 : ℝ) : EReal) + ((3989422804014327 / 5000000000000000 : ℝ) : EReal))) = -1 := by
        rw [EReal.bot_mul_bot, EReal.top_mul_coe_of_pos (by norm_num), EReal.top_add_coe, EReal.bot_mul_top]; rfl
      unfold kD
      rw [e, show (1 : EReal) + -1 = 0 from by
        rw [show (1 : EReal) = ((1 : ℝ) : EReal) from rfl, ← EReal.coe_neg, ← EReal.coe_add]; norm_num, zero_mul]
      norm_num
    · have e : rT (⊥ : EReal) = -1 := by
        unfold rT
        rw [EReal.coe_mul_bot_of_pos (by norm_num), EReal.bot_mul_bot, EReal.top_mul_bot, EReal.bot_add, EReal.coe_mul_bot_of_pos (by norm_num)]; rfl
      unfold rD
      rw [e, show (1 : EReal) + -1 = 0 from by
        rw [show (1 : EReal) = ((1 : ℝ) : EReal) from rfl, ← EReal.coe_neg, ← EReal.coe_add]; norm_num,
        show (1 : EReal) - -1 * -1 = 0 from by
          rw [show (1 : EReal) = ((1 : ℝ) : EReal) from rfl, ← EReal.coe_neg, ← EReal.coe_mul, ← EReal.coe_sub]; norm_num]
      simp
  | top =>
    refine ⟨1 / 2, by norm_num [abs_of_pos], ?_, ?_⟩
    · have e : Ideal.tanh ((⊤ : EReal) * (⊤ * ⊤ * ((35677408136300126361 / 1000000000000000000000 : ℝ) : EReal) + ((3989422804014327 / 5000000000000000 : ℝ) : EReal))) = 1 := by
        rw [EReal.top_mul_top, EReal.top_mul_coe_of_pos (by norm_num), EReal.top_add_coe, EReal.top_mul_top]; rfl
      unfold kD
      rw [e, show (1 : EReal) - 1 = 0 from by
        rw [show (1 : EReal) = ((1 : ℝ) : EReal) from rfl, ← EReal.coe_sub]; norm_num, zero_mul, add_zero,
        show (1 : EReal) = ((1 : ℝ) : EReal) from rfl, ← EReal.coe_add, ← EReal.coe_mul]
      norm_num
    · have e : rT (⊤ : EReal) = 1 := by
        unfold rT
        rw [EReal.coe_mul_top_of_pos (by norm_num), EReal.top_mul_top, EReal.top_mul_top, EReal.top_add_top, EReal.coe_mul_top_of_pos (by norm_num)]; rfl
      unfold rD
      rw [e, show (1 : EReal) - 1 * 1 = 0 from by
          rw [show (1 : EReal) = ((1 : ℝ) : EReal) from rfl, ← EReal.coe_mul, ← EReal.coe_sub]; norm_num, mul_zero, zero_mul, zero_mul, add_zero,
        show (1 : EReal) = ((1 : ℝ) : EReal) from rfl, ← EReal.coe_add, ← EReal.coe_mul]
      norm_num
  | coe p =>
    have hu : C * (p + K * p * p * p) = p * (p * p * (35677408136300126361 / 1000000000000000000000) + 3989422804014327 / 5000000000000000) := by
      unfold C K; ring
    refine ⟨dReal p / 2, ?_, ?_, ?_⟩
    · rw [abs_div, abs_of_pos (by norm_num : (0 : ℝ) < 2)]; linarith [abs_dReal_le p]
    · unfold kD
      rw [show (1 : EReal) = ((1 : ℝ) : EReal) from rfl]
      simp only [← EReal.coe_mul, ← EReal.coe_add]
      rw [← hu]
      show (((1 : ℝ) : EReal) + ((Real.tanh _ : ℝ) : EReal)) * (((1 / 3 : ℝ) : EReal) + (((1 : ℝ) : EReal) - ((Real.tanh _ : ℝ) : EReal)) * _) = _
      simp only [← EReal.coe_mul, ← EReal.coe_add, ← EReal.coe_sub]
      rw [EReal.coe_eq_coe_iff]
      unfold dReal
      generalize Real.tanh _ = t
      unfold C K; ring
    · unfold rD rT
      rw [show (1 : EReal) = ((1 : ℝ) : EReal) from rfl]
      simp only [← EReal.coe_mul, ← EReal.coe_add]
      show ((1 / 2 : ℝ) : EReal) * (((1 : ℝ) : EReal) + ((Real.tanh (C * (p + K * p * p * p)) : ℝ) : EReal)) + _ * (((1 : ℝ) : EReal) - ((Real.tanh (C * (p + K * p * p * p)) : ℝ) : EReal) * ((Real.tanh (C * (p + K * p * p * p)) : ℝ) : EReal)) * _ * _ = _
      simp only [← EReal.coe_mul, ← EReal.coe_add, ← EReal.coe_sub]
      rw [EReal.coe_eq_coe_iff]
      unfold dReal
      generalize Real.tanh _ = t
      unfold C K; ring

end Cert.Scalar

end
-- ==== Proof.Quant.lean ====
/- The two forms of the block quantiser over the extended reals, and that they agree: the kernel counts the exponent of
   the largest magnitude off against the powers of two, the plain form takes the floor of its base-two logarithm; the
   kernel's 32 numbers are half of the plain form's. -/
module

public import Idealize.ShloMosaic.PureOps.Ideal
public import Idealize.ShloMosaic.Lib.IndicatorCount
public import Mathlib.Analysis.SpecialFunctions.Exp

@[expose] public section

noncomputable section

namespace Cert.Scalar

open Idealize.ShloMosaic

/-! ## What the bit patterns denote -/

/-- The word whose exponent field is `n` and whose other fields are zero: its fields, read back. -/
theorem field_word : ∀ n : Fin 256, ((BitVec.ofNat 32 n.val <<< 23).extractLsb' 31 1 = 0#1)
    ∧ ((BitVec.ofNat 32 n.val <<< 23).extractLsb' 23 8).toNat = n.val ∧ ((BitVec.ofNat 32 n.val <<< 23).extractLsb' 0 23).toNat = 0 := by
  decide +kernel

/-- It denotes the power of two `2 ^ (n − 127)` for `n` from 1 to 254. -/
theorem ofBits_field (n : ℕ) (h1 : 1 ≤ n) (h2 : n ≤ 254) :
    Ideal.ofBits .f32 (IntOp.shli .vector (BitVec.ofNat 32 n) 23#32) = (((2 : ℝ) ^ ((n : ℤ) - 127) : ℝ) : EReal) := by
  obtain ⟨hs, he, hf⟩ := field_word ⟨n, by omega⟩
  show Ideal.ieee 8 23 (BitVec.ofNat 32 n <<< 23) = _
  unfold Ideal.ieee
  simp only [show (8 + 23 : ℕ) = 31 from rfl]
  dsimp only at hs he hf
  rw [hs, he, hf, if_neg (by norm_num; omega), if_neg (by omega)]
  rw [EReal.coe_eq_coe_iff]
  rw [if_neg (by decide)]
  have e1 : ((n : ℤ) - (2 ^ (8 - 1) - 1) - (23 : ℕ)) = (n : ℤ) - 150 := by norm_num; ring
  have e2 : (n : ℤ) - 127 = 23 + ((n : ℤ) - 150) := by ring
  rw [e1, e2, zpow_add₀ two_ne_zero]
  generalize (2 : ℝ) ^ ((n : ℤ) - 150) = z
  norm_num

/-- With the field at 255 it denotes the infinity. -/
theorem ofBits_field_top : Ideal.ofBits .f32 (IntOp.shli .vector (BitVec.ofNat 32 255) 23#32) = ⊤ := by
  obtain ⟨hs, he, hf⟩ := field_word ⟨255, by omega⟩
  show Ideal.ieee 8 23 (BitVec.ofNat 32 255 <<< 23) = _
  unfold Ideal.ieee
  simp only [show (8 + 23 : ℕ) = 31 from rfl]
  dsimp only at hs he hf
  rw [hs, he, hf, if_pos (by norm_num), if_pos rfl]; rfl

theorem ofBits_neg_inf : Ideal.ofBits .f32 0xFF800000#32 = ⊥ := by
  simp [Ideal.ofBits, Ideal.ieee]

theorem ofBits_c448 : Ideal.ofBits .f32 0x3B124925#32 = ((9586981 * 2 ^ (-32 : ℤ) : ℝ) : EReal) := by
  simp [Ideal.ofBits, Ideal.ieee, -EReal.coe_mul]

theorem ofBits_448 : Ideal.ofBits .f32 0x43E00000#32 = ((448 : ℝ) : EReal) := by
  simp [Ideal.ofBits, Ideal.ieee, -EReal.coe_mul]; norm_num

theorem ofBits_neg_448 : Ideal.ofBits .f32 0xC3E00000#32 = ((-448 : ℝ) : EReal) := by
  simp [Ideal.ofBits, Ideal.ieee, -EReal.coe_mul, -EReal.coe_neg]; norm_num

theorem ofBits_tiny : Ideal.ofBits .f32 0x01000000#32 = (((2 : ℝ) ^ (-125 : ℤ) : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee, -EReal.coe_mul]

theorem ofBits_one : Ideal.ofBits .f32 0x3F800000#32 = ((1 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-- A byte that is no NaN denotes a real code of magnitude at most 448. -/
theorem code_real (b : BitVec 8) (h : b ≠ 127#8) (h' : b ≠ 255#8) :
    ∃ c : ℝ, |c| ≤ 448 ∧ Ideal.ofBits .fp8e4m3 b = (c : EReal) := by
  have hn : ¬((b.extractLsb' 3 4).toNat = 15 ∧ (b.extractLsb' 0 3).toNat = 7) := by
    revert h h'; revert b; decide +kernel
  have hb : (b.extractLsb' 3 4).toNat = 15 → (b.extractLsb' 0 3).toNat ≤ 6 := by
    intro e; have := (b.extractLsb' 0 3).isLt; by_contra hc; exact hn ⟨e, by omega⟩
  have he := (b.extractLsb' 3 4).isLt
  have hf := (b.extractLsb' 0 3).isLt
  show ∃ c : ℝ, |c| ≤ 448 ∧ Ideal.e4m3fn b = (c : EReal)
  unfold Ideal.e4m3fn
  dsimp only
  rw [if_neg hn]
  generalize (b.extractLsb' 3 4).toNat = ex at *
  generalize (b.extractLsb' 0 3).toNat = fr at *
  have hs : |(if (b.extractLsb' 7 1 == 1#1) = true then (-1 : ℝ) else 1)| = 1 := by split <;> norm_num
  generalize (if (b.extractLsb' 7 1 == 1#1) = true then (-1 : ℝ) else 1) = s at *
  have hfr : (fr : ℝ) ≤ 7 := by exact_mod_cast (by omega : fr ≤ 7)
  by_cases h0 : ex = 0
  · rw [if_pos h0]
    refine ⟨_, ?_, rfl⟩
    rw [abs_mul, abs_mul, hs, one_mul, Nat.abs_cast, abs_of_pos (by positivity)]
    calc (fr : ℝ) * 2 ^ (-9 : ℤ) ≤ 7 * 2 ^ (-9 : ℤ) := by gcongr
      _ ≤ 448 := by norm_num
  · rw [if_neg h0]
    refine ⟨_, ?_, rfl⟩
    rw [abs_mul, abs_mul, hs, one_mul, Nat.abs_cast, abs_of_pos (by positivity)]
    by_cases h15 : ex = 15
    · have : ((8 + fr : ℕ) : ℝ) ≤ 14 := by exact_mod_cast (by have := hb h15; omega : 8 + fr ≤ 14)
      subst h15
      calc ((8 + fr : ℕ) : ℝ) * 2 ^ (((15 : ℕ) : ℤ) - 10) ≤ 14 * 2 ^ (((15 : ℕ) : ℤ) - 10) := by gcongr
        _ ≤ 448 := by norm_num
    · have : ((8 + fr : ℕ) : ℝ) ≤ 15 := by exact_mod_cast (by omega : 8 + fr ≤ 15)
      calc ((8 + fr : ℕ) : ℝ) * 2 ^ ((ex : ℤ) - 10) ≤ 15 * 2 ^ (4 : ℤ) := by
            gcongr
            · norm_num
            · omega
        _ ≤ 448 := by norm_num

/-! ## The two forms -/

/-- The largest magnitude of 32 numbers. -/
def amax (w : Fin 32 → EReal) : EReal :=
  (Finset.univ : Finset (Fin 32)).fold max (Ideal.ofBits .f32 0xFF800000#32) fun k => max (w k) (-(w k))

/-- Of 32 real numbers it is the real number that is one of the magnitudes and at least each. -/
theorem amax_eq (y : Fin 32 → ℝ) (a : ℝ) (hm : ∃ k, a = |y k|) (hle : ∀ k, |y k| ≤ a) : amax (fun k => (y k : EReal)) = (a : EReal) := by
  have e : ∀ k, max (y k : EReal) (-(y k : EReal)) = ((|y k| : ℝ) : EReal) := fun k => by
    rw [← EReal.coe_neg, abs_eq_max_neg]; exact (EReal.coe_strictMono.monotone.map_max).symm
  unfold amax
  rw [ofBits_neg_inf]
  simp only [e]
  apply le_antisymm
  · exact (Finset.fold_max_le _).mpr ⟨bot_le, fun k _ => EReal.coe_le_coe_iff.mpr (hle k)⟩
  · obtain ⟨k, rfl⟩ := hm
    exact Finset.le_fold_max _ |>.mpr (Or.inr ⟨k, Finset.mem_univ _, le_rfl⟩)

/-- The kernel's exponent field: how many of the powers of two of field 1, …, 255 the magnitude over 448 reaches, 125 for none. -/
def kCount (x : EReal) : BitVec 32 :=
  (Finset.univ : Finset (Fin 255)).fold IntOp.addi 0#32 fun k =>
    (Ideal.cmp .oge x (Ideal.ofBits .f32 (IntOp.shli .vector (IntOp.addi (BitVec.ofNat 32 k.val) 1#32) 23#32))).setWidth 32

/-- The kernel's exponent field, 125 in place of 0. -/
def kField (x : EReal) : BitVec 32 := Scalar.select (IntOp.cmpi .eq (kCount x) 0#32) 125#32 (kCount x)

/-- The kernel's code of a number. -/
def kCode (f : BitVec 32) (w : EReal) : EReal :=
  min (Ideal.ofBits .f32 0x43E00000#32) (max (Ideal.ofBits .f32 0xC3E00000#32)
    (w * Ideal.ofBits .f32 (IntOp.shli .vector (IntOp.subi 253#32 f) 23#32)))

/-- The kernel's stored exponent. -/
def kScale (f : BitVec 32) : BitVec 8 := (IntOp.addi f 2#32).setWidth 8

/-- The plain form's exponent. -/
def rExp (x : EReal) : EReal :=
  Scalar.select (Ideal.cmp .olt x (Ideal.ofBits .f32 0x01000000#32)) (Ideal.ofBits .f32 0x00000000#32)
    (Ideal.liftRound Int.floor (Ideal.div (Ideal.log x) ((Real.log 2 : ℝ) : EReal)) + Ideal.ofBits .f32 0x3F800000#32)

/-- The plain form's code of a number. -/
def rCode (e : EReal) (w : EReal) : EReal :=
  min (Ideal.ofBits .f32 0x43E00000#32) (max (Ideal.ofBits .f32 0xC3E00000#32)
    (w * Ideal.exp2 (Ideal.ofBits .f32 0x00000000#32 - e)))

/-- The plain form's stored exponent. -/
def rScale (e : EReal) : BitVec 8 := (IntOp.addi (Ideal.fptosi 32 e) 127#32).setWidth 8

/-! ## The exponent -/

/-- A real number between two neighbouring powers of two of fields 1 to 253 reaches exactly those up to the lower. -/
theorem kCount_eq (x : ℝ) (n : ℕ) (hn : n ≤ 253) (h : ∀ k : ℕ, 1 ≤ k → k ≤ 254 → ((2 : ℝ) ^ ((k : ℤ) - 127) ≤ x ↔ k ≤ n)) :
    kCount (x : EReal) = BitVec.ofNat 32 n := by
  unfold kCount
  rw [IndicatorCount.fold_addi_setWidth_eq_card]
  congr 1
  have e : ∀ k : Fin 255, (Ideal.cmp .oge (x : EReal) (Ideal.ofBits .f32 (IntOp.shli .vector (IntOp.addi (BitVec.ofNat 32 k.val) 1#32) 23#32)) = 1#1) ↔ k.val < n := by
    intro k
    have ek : IntOp.addi (BitVec.ofNat 32 k.val) 1#32 = BitVec.ofNat 32 (k.val + 1) := (BitVec.ofNat_add ..).symm
    rw [ek]
    unfold Ideal.cmp
    have hk := k.isLt
    by_cases hk' : k.val = 254
    · rw [hk', ofBits_field_top]
      constructor
      · intro hc; exfalso; simp at hc
      · intro hc; omega
    · rw [ofBits_field _ (by omega) (by omega)]
      simp only [EReal.coe_le_coe_iff]
      have hh := h (k.val + 1) (by omega) (by omega)
      by_cases hc : (2 : ℝ) ^ (((k.val + 1 : ℕ) : ℤ) - 127) ≤ x
      · rw [decide_eq_true hc]
        have := hh.mp hc
        exact ⟨fun _ => by omega, fun _ => rfl⟩
      · rw [decide_eq_false hc]
        have := mt hh.mpr hc
        exact ⟨fun hb => absurd hb (by decide), fun hb => by omega⟩
  rw [Finset.filter_congr fun k _ => e k]
  have : (Finset.univ.filter fun k : Fin 255 => k.val < n) = Finset.Iio (⟨n, by omega⟩ : Fin 255) := by
    ext k; simp [Fin.lt_def]
  rw [this, Fin.card_Iio]

/-- Below `2 ^ 126` the two exponents are one integer: the field is it plus 125, between 1 and 252. -/
theorem exponent_agree (x : ℝ) (h0 : 0 ≤ x) (hx : x < 2 ^ (126 : ℤ)) :
    ∃ n : ℕ, 1 ≤ n ∧ n ≤ 252 ∧ kField (x : EReal) = BitVec.ofNat 32 n
      ∧ rExp ((2 * x : ℝ) : EReal) = ((((n : ℤ) - 125 : ℤ) : ℝ) : EReal) := by
  have one_lt : (1 : ℝ) < 2 := by norm_num
  by_cases hs : x < 2 ^ (-126 : ℤ)
  · refine ⟨125, by norm_num, by norm_num, ?_, ?_⟩
    · have : kCount (x : EReal) = 0#32 := kCount_eq x 0 (by norm_num) fun k h1 _ => by
        refine ⟨fun hc => ?_, fun hc => by omega⟩
        exact absurd (hc.trans_lt hs) (not_lt.mpr (zpow_le_zpow_right₀ one_lt.le (by omega)))
      unfold kField; rw [this]; rfl
    · unfold rExp Ideal.cmp
      rw [ofBits_tiny, ofBits_zero]
      have h2 : 2 * x < 2 ^ (-125 : ℤ) := by
        have : (2 : ℝ) ^ (-125 : ℤ) = 2 * 2 ^ (-126 : ℤ) := by rw [← zpow_one_add₀ (by norm_num)]; norm_num
        rw [this]; linarith
      simp only [EReal.coe_lt_coe_iff]
      rw [decide_eq_true h2]
      show ((0 : ℝ) : EReal) = _
      norm_num
  · push Not at hs
    have xpos : 0 < x := lt_of_lt_of_le (by positivity) hs
    obtain ⟨l, hl, hu⟩ := exists_mem_Ico_zpow xpos one_lt
    have l1 : -126 ≤ l := by
      by_contra hc
      exact absurd (hs.trans_lt hu) (not_lt.mpr (zpow_le_zpow_right₀ one_lt.le (by omega)))
    have l2 : l ≤ 125 := by
      by_contra hc
      exact absurd (hl.trans_lt hx) (not_lt.mpr (zpow_le_zpow_right₀ one_lt.le (by omega)))
    obtain ⟨n, hn⟩ : ∃ n : ℕ, (n : ℤ) = l + 127 := ⟨(l + 127).toNat, by omega⟩
    refine ⟨n, by omega, by omega, ?_, ?_⟩
    · have : kCount (x : EReal) = BitVec.ofNat 32 n := kCount_eq x n (by omega) fun k h1 h2 => by
        constructor
        · intro hc
          by_contra hk
          exact absurd (hc.trans_lt hu) (not_lt.mpr (zpow_le_zpow_right₀ one_lt.le (by omega)))
        · intro hk
          exact le_trans (zpow_le_zpow_right₀ one_lt.le (by omega)) hl
      unfold kField; rw [this]
      have hne : BitVec.ofNat 32 n ≠ 0#32 := fun hc => by
        have := congrArg BitVec.toNat hc
        rw [BitVec.toNat_ofNat, Nat.mod_eq_of_lt (by omega)] at this
        simp at this; omega
      have : IntOp.cmpi .eq (BitVec.ofNat 32 n) 0#32 = 0#1 := by
        show BitVec.ofBool (BitVec.ofNat 32 n == 0#32) = 0#1
        rw [beq_eq_false_iff_ne.mpr hne]; rfl
      rw [this]; rfl
    · unfold rExp Ideal.cmp
      rw [ofBits_tiny, ofBits_one]
      have h2 : ¬2 * x < 2 ^ (-125 : ℤ) := by
        have : (2 : ℝ) ^ (-125 : ℤ) = 2 * 2 ^ (-126 : ℤ) := by rw [← zpow_one_add₀ (by norm_num)]; norm_num
        rw [this]; linarith
      simp only [EReal.coe_lt_coe_iff]
      rw [decide_eq_false h2]
      have lp : 0 < Real.log 2 := Real.log_pos one_lt
      show Ideal.liftRound Int.floor (Ideal.div (Ideal.log ((2 * x : ℝ) : EReal)) ((Real.log 2 : ℝ) : EReal)) + ((1 : ℝ) : EReal) = _
      rw [Ideal.log_coe, if_neg (by linarith), Ideal.div_coe lp.ne', ← EReal.coe_mul, Ideal.liftRound_coe, ← EReal.coe_add]
      have hf : ⌊Real.log (2 * x) * (1 / Real.log 2)⌋ = l + 1 := by
        rw [Int.floor_eq_iff, mul_one_div]
        constructor
        · rw [le_div_iff₀ lp, ← Real.log_zpow]
          apply Real.log_le_log (by positivity)
          rw [zpow_add_one₀ (by norm_num)]; linarith
        · rw [div_lt_iff₀ lp]
          have : ((l + 1 : ℤ) : ℝ) + 1 = ((l + 2 : ℤ) : ℝ) := by push_cast; ring
          rw [this, ← Real.log_zpow]
          apply Real.log_lt_log (by linarith)
          have : (2 : ℝ) ^ (l + 2) = 2 * 2 ^ (l + 1) := by rw [← zpow_one_add₀ (by norm_num)]; congr 1; ring
          rw [this]; linarith
      rw [hf, EReal.coe_eq_coe_iff]
      have : (n : ℝ) = l + 127 := by exact_mod_cast hn
      push_cast; linarith

/-! ## The codes and the stored exponent -/

theorem scale_words : ∀ n : Fin 253, (BitVec.ofNat 32 n.val + 2#32).setWidth 8 = (BitVec.ofInt 32 ((n.val : ℤ) - 125) + 127#32).setWidth 8 := by
  decide +kernel

theorem sub_words : ∀ n : Fin 253, 253#32 - BitVec.ofNat 32 n.val = BitVec.ofNat 32 (253 - n.val) := by
  decide +kernel

/-- An integer within the bounds is its own conversion. -/
theorem clamp_int (lo hi z : ℤ) (h : lo ≤ z) (h' : z ≤ hi) : Ideal.toIntClamped lo hi ((z : ℝ) : EReal) = z := by
  rw [Ideal.toIntClamped_coe, Int.floor_intCast, Int.ceil_intCast, ite_self, min_eq_right h', max_eq_right h]

/-- Thirty-two real numbers, the plain form's twice the kernel's, not too large: the same codes and the same stored exponent. -/
theorem quant_agree (y : Fin 32 → ℝ) (hy : ∀ k, |y k| ≤ 448 * 2 ^ (126 : ℤ) * (7 / 8)) :
    (∀ k, kCode (kField (amax (fun k => (y k : EReal)) * Ideal.ofBits .f32 0x3B124925#32)) (y k)
        = rCode (rExp (amax (fun k => ((2 * y k : ℝ) : EReal)) * Ideal.ofBits .f32 0x3B124925#32)) ((2 * y k : ℝ) : EReal))
      ∧ kScale (kField (amax (fun k => (y k : EReal)) * Ideal.ofBits .f32 0x3B124925#32))
        = rScale (rExp (amax (fun k => ((2 * y k : ℝ) : EReal)) * Ideal.ofBits .f32 0x3B124925#32)) := by
  obtain ⟨k0, -, hk0⟩ := Finset.exists_max_image (Finset.univ : Finset (Fin 32)) (fun k => |y k|) ⟨0, Finset.mem_univ _⟩
  have hle : ∀ k, |y k| ≤ |y k0| := fun k => hk0 k (Finset.mem_univ _)
  rw [amax_eq y |y k0| ⟨k0, rfl⟩ hle,
    amax_eq (fun k => 2 * y k) (2 * |y k0|) ⟨k0, by rw [abs_mul]; norm_num⟩ (fun k => by rw [abs_mul]; norm_num; exact hle k),
    ofBits_c448, ← EReal.coe_mul, ← EReal.coe_mul, mul_assoc 2]
  have hx : |y k0| * (9586981 * 2 ^ (-32 : ℤ)) < 2 ^ (126 : ℤ) := by
    have := hy k0
    norm_num at this ⊢
    linarith
  obtain ⟨n, h1, h2, hk, hr⟩ := exponent_agree (|y k0| * (9586981 * 2 ^ (-32 : ℤ))) (by positivity) hx
  rw [hk, hr]
  constructor
  · intro k
    unfold kCode rCode
    have e : IntOp.subi 253#32 (BitVec.ofNat 32 n) = BitVec.ofNat 32 (253 - n) := sub_words ⟨n, by omega⟩
    rw [e, ofBits_field _ (by omega) (by omega), ofBits_zero, ← EReal.coe_sub, Ideal.exp2_coe, ← EReal.coe_mul, ← EReal.coe_mul]
    refine congrArg (fun z : ℝ => min (Ideal.ofBits .f32 0x43E00000#32) (max (Ideal.ofBits .f32 0xC3E00000#32) (z : EReal))) ?_
    have e1 : (0 - (((n : ℤ) - 125 : ℤ) : ℝ)) = ((125 - (n : ℤ) : ℤ) : ℝ) := by push_cast; ring
    rw [e1]
    show y k * _ = 2 * y k * (2 : ℝ) ^ (((125 - (n : ℤ) : ℤ) : ℝ))
    rw [Real.rpow_intCast]
    have e2 : ((253 - n : ℕ) : ℤ) - 127 = 1 + (125 - (n : ℤ)) := by omega
    rw [e2, zpow_one_add₀ (by norm_num)]; ring
  · unfold kScale rScale
    have e : Ideal.fptosi 32 ((((n : ℤ) - 125 : ℤ) : ℝ) : EReal) = BitVec.ofInt 32 ((n : ℤ) - 125) := by
      unfold Ideal.fptosi
      rw [clamp_int _ _ _ (by norm_num; omega) (by norm_num; omega)]
    rw [e]
    exact scale_words ⟨n, by omega⟩

end Cert.Scalar

end
-- ==== Proof.Casts.lean ====
/- Splitting the last axis of a three-axis array into blocks and joining it again, read at an index; and a few chains of
   elementwise operations, read at an index whatever their constants. -/
module

public import Idealize.ShloMosaic.Lib.Pointwise.Index
public import Idealize.ShloMosaic.Lib.Pointwise.Reshape
public import Idealize.ShloMosaic.Lib.Pipeline.Value
public import Idealize.ShloMosaic.PureOps.Ideal

@[expose] public section

noncomputable section

namespace Cert.Scalar

open Idealize.ShloMosaic

variable {α : Type}

/-- The row-major place of an index, when its last axis is cut into blocks. -/
theorem rowMajor_blocks {a b g k : ℕ} (i : Fin a) (j : Fin b) (p : Fin g) (q : Fin k) (r : Fin (g * k)) (hr : r.val = p.val * k + q.val) :
    ((⟨3, ![a, b, g * k]⟩ : Shape).rowMajor (ix3 i j r)).val = ((⟨4, ![a, b, g, k]⟩ : Shape).rowMajor (ix4 i j p q)).val := by
  rw [rowMajor_val3 _ (b * (g * k)) (g * k) rfl rfl, rowMajor_val4 _ (b * (g * k)) (g * k) k rfl rfl rfl]
  show i.val * _ + j.val * _ + r.val = i.val * _ + j.val * _ + p.val * k + q.val
  rw [hr, Nat.add_assoc (i.val * (b * (g * k)) + j.val * (g * k))]

/-- The last axis split into blocks: entry `q` of block `p` is entry `p · k + q`. -/
theorem shapeCast_split {a b n g k : ℕ} (hn : n = g * k) (x : (⟨3, ![a, b, n]⟩ : Shape).Idx → α)
    (h : (⟨3, ![a, b, n]⟩ : Shape).ShapeCasts ⟨4, ![a, b, g, k]⟩) (i : Fin a) (j : Fin b) (p : Fin g) (q : Fin k) (r : Fin n)
    (hr : r.val = p.val * k + q.val) : shapeCast ⟨4, ![a, b, g, k]⟩ x h (ix4 i j p q) = x (ix3 i j r) := by
  subst hn
  exact shapeCast_apply _ _ _ _ (rowMajor_blocks i j p q r hr)

/-- The blocks joined: entry `p · k + q` is entry `q` of block `p`. -/
theorem shapeCast_join {a b n g k : ℕ} (hn : n = g * k) (x : (⟨4, ![a, b, g, k]⟩ : Shape).Idx → α)
    (h : (⟨4, ![a, b, g, k]⟩ : Shape).ShapeCasts ⟨3, ![a, b, n]⟩) (i : Fin a) (j : Fin b) (p : Fin g) (q : Fin k) (r : Fin n)
    (hr : r.val = p.val * k + q.val) : shapeCast ⟨3, ![a, b, n]⟩ x h (ix3 i j r) = x (ix4 i j p q) := by
  subst hn
  exact shapeCast_apply _ _ _ _ (rowMajor_blocks i j p q r hr).symm

variable {s : Shape}

/-- The exponent's chain of operations. -/
theorem exponent_chain (v : FVec Ideal s .f32) (c t z o l : Ideal .f32) (i : s.Idx) :
    select (cmpf .olt (mulf v (broadcast s c)) (broadcast s t)) (broadcast s z)
        (addf (floor (divf (log (mulf v (broadcast s c))) (broadcast s l))) (broadcast s o)) i
      = Scalar.select (Ideal.cmp .olt ((v i : EReal) * c) t) (z : EReal)
          (Ideal.liftRound Int.floor (Ideal.div (Ideal.log ((v i : EReal) * c)) l) + o) := rfl

/-- The clipped product's. -/
theorem clip_chain (v w : FVec Ideal s .f32) (lo hi : Ideal .f32) (h : FTy.fp8e4m3.bits < FTy.f32.bits) (i : s.Idx) :
    truncf .fp8e4m3 (minimumf (broadcast s hi) (maximumf (broadcast s lo) (mulf v w))) h i
      = min (hi : EReal) (max lo ((v i : EReal) * w i)) := rfl

/-- The negated power's. -/
theorem power_chain (e : FVec Ideal s .f32) (z : Ideal .f32) (i : s.Idx) :
    exp2 (subf (broadcast s z) e) i = Ideal.exp2 ((z : EReal) - e i) := rfl

/-- The stored exponent's. -/
theorem stored_chain (e : FVec Ideal s .f32) (c : BitVec 32) (h : 8 < 32) (i : s.Idx) :
    trunci 8 (addi (fptosi 32 e) (broadcast s c)) h i = (IntOp.addi (Ideal.fptosi 32 (e i)) c).setWidth 8 := rfl

end Cert.Scalar

end
-- ==== Proof.KernelIdealTileValue.lean ====
/- The block a grid point leaves in each result, read at an index: from the unpacked scales, the codes and the
   preactivations of one row group and one column. -/
module

public import proofs.«01_k».proof.Proof.KernelIdealRun
public import proofs.«01_k».proof.Proof.Deriv
public import proofs.«01_k».proof.Proof.Quant
public import proofs.«01_k».proof.Proof.Casts
public import Idealize.ShloMosaic.PureOps.Ideal.Laws
public import Idealize.ShloMosaic.PureOps.IdealRules

@[expose] public section

set_option maxRecDepth 16384

noncomputable section

namespace Cert.KernelIdeal.Gen

open Idealize.ShloMosaic Cert.Scalar

/-! ## One row group -/

/-- The product the kernel quantises, from an unpacked scale, a code's number and a preactivation. -/
def kW (q x p : EReal) : EReal := (x * q) * kD p

theorem drop_apply {α : Type} (x : S1x32x128.Idx → α) (k : Fin 32) (j : Fin 128) :
    shapeCast S32x128 x shapeCasts_S1x32x128_S32x128 (ix2 k j) = x (ix3 0 k j) := by
  refine (shapeCast_dropUnit_apply ![32, 128] x _ (ix2 k j)).trans (congrArg x ?_)
  funext a; fin_cases a <;> rfl

/-- The products of a group, at an index. -/
theorem grpW_apply (q : FVec Ideal S32x128 .f32) (x : Vec Ideal S1x32x128 .fp8e4m3) (p : Vec Ideal S1x32x128 .bf16) (k : Fin 32) (j : Fin 128) :
    grpW (F := Ideal) q x p (ix2 k j) = kW (q (ix2 k j)) (x (ix3 0 k j)) (p (ix3 0 k j)) := by
  have h1 : (Named.named κ "gelu_ck" 0x3D122279#32 : Ideal .f32) = ((35677408136300126361 / 1000000000000000000000 : ℝ) : EReal) :=
    IdealRules.named_const.ideal_named_scalar _ _ _ _ rfl
  have h2 : (Named.named κ "gelu_c" 0x3F4C422A#32 : Ideal .f32) = ((3989422804014327 / 5000000000000000 : ℝ) : EReal) :=
    IdealRules.named_const.ideal_named_scalar _ _ _ _ rfl
  have h3 : (Named.named κ "gelu_c_third" 0x3E882C1C#32 : Ideal .f32) = ((1329807601338109 / 5000000000000000 : ℝ) : EReal) :=
    IdealRules.named_const.ideal_named_scalar _ _ _ _ rfl
  have h4 : (Named.named κ "third" 0x3EAAAAAB#32 : Ideal .f32) = ((1 / 3 : ℝ) : EReal) :=
    IdealRules.named_const.ideal_named_scalar _ _ _ _ rfl
  unfold grpW kW kD
  rw [h1, h2, h3, h4, show (1 : EReal) = ((1 : ℝ) : EReal) from rfl, ← ofBits_one, ← drop_apply x, ← drop_apply p]
  rfl

/-- A column of a row group. -/
def grpCol (w : FVec Ideal S32x128 .f32) (j : Fin 128) (k : Fin 32) : EReal := w (ix2 k j)

theorem add_apply {α : Type} (x : S128.Idx → α) (j : Fin 128) :
    shapeCast S1x128 x shapeCasts_S128_S1x128 (ix2 0 j) = x (ix1 j) := by
  refine (shapeCast_addUnit_apply ![128] x _ (ix2 0 j)).trans (congrArg x ?_)
  funext a; fin_cases a; rfl

/-- A group's largest magnitude in a column. -/
theorem grpAmax_apply (w : FVec Ideal S32x128 .f32) (j : Fin 128) :
    grpAmax w (ix2 0 j) = amax (grpCol w j) * Ideal.ofBits .f32 0x3B124925#32 := by
  unfold grpAmax
  refine congrArg (fun z : EReal => z * Ideal.ofBits .f32 0x3B124925#32) ((add_apply _ j).trans ?_)
  refine (Ideal.multiReduction_maximumf_single _ _ _ _ _ _).trans ?_
  unfold amax
  refine congrArg ((Finset.univ : Finset (Fin 32)).fold max (Ideal.ofBits .f32 0xFF800000#32)) (funext fun k : Fin 32 => ?_)
  have e : reduces_S32x128_S128.lift (ix1 j) k = ix2 k j := by
    funext a; fin_cases a <;> rfl
  have e1 : w (reduces_S32x128_S128.lift (ix1 j) k) = grpCol w j k := congrArg w e
  exact congrArg (fun z : EReal => max z (-z)) e1

/-- One comparison of the count. -/
theorem reach_chain (a : FVec Ideal S255x128 .f32) (n : IVec S255x128 32) (one sh : BitVec 32) (h : 1 < 32) (i : S255x128.Idx) :
    extui 32 (cmpf .oge a (bitcastToFloat .f32 (shli (addi n (broadcast S255x128 one)) (broadcast S255x128 sh)))) h i
      = (Ideal.cmp .oge (a i) (Ideal.ofBits .f32 (IntOp.shli .vector (IntOp.addi (n i) one) sh))).setWidth 32 := rfl

/-- The count of powers of two reached, in a column. -/
theorem grpCount_apply (w : FVec Ideal S32x128 .f32) (j : Fin 128) :
    grpCount w (ix2 0 j) = kCount (amax (grpCol w j) * Ideal.ofBits .f32 0x3B124925#32) := by
  unfold grpCount
  dsimp only
  refine (add_apply _ j).trans ?_
  rw [← grpAmax_apply]
  refine (multiReductionI_eq_fold .add _ _ _ rfl _).trans ?_
  refine (reduces_S255x128_S128.fold_filter_drop_single IntOp.addi _ _ _).trans ?_
  unfold kCount
  refine congrArg ((Finset.univ : Finset (Fin 255)).fold IntOp.addi 0#32) (funext fun k : Fin 255 => ?_)
  have e : reduces_S255x128_S128.lift (ix1 j) k = ix2 k j := by
    funext a; fin_cases a <;> rfl
  refine (congrArg _ e).trans ?_
  refine (reach_chain _ _ _ _ _ _).trans ?_
  rw [iota_single_apply, broadcastTo_apply _ _ (ix2 k j) (ix2 0 j) (fun a => by fin_cases a <;> rfl)]
  rfl

/-- The choice of a field. -/
theorem field_chain (n : IVec S1x128 32) (z d : BitVec 32) (i : S1x128.Idx) :
    select (cmpi .eq n (broadcast S1x128 z)) (broadcast S1x128 d) n i = Scalar.select (IntOp.cmpi .eq (n i) z) d (n i) := rfl

/-- A group's exponent field in a column. -/
theorem grpField_apply (w : FVec Ideal S32x128 .f32) (j : Fin 128) :
    grpField w (ix2 0 j) = kField (amax (grpCol w j) * Ideal.ofBits .f32 0x3B124925#32) := by
  unfold grpField kField
  rw [← grpCount_apply]
  exact field_chain _ _ _ _

/-- The number whose bits are a shifted difference. -/
theorem factor_chain (f : IVec S1x128 32) (c sh : BitVec 32) (i : S1x128.Idx) :
    (bitcastToFloat .f32 (shli (subi (broadcast S1x128 c) f) (broadcast S1x128 sh)) : FVec Ideal S1x128 .f32) i
      = Ideal.ofBits .f32 (IntOp.shli .vector (IntOp.subi c (f i)) sh) := rfl

/-- A group's codes, at an index. -/
theorem grpCodes_apply (w : FVec Ideal S32x128 .f32) (k : Fin 32) (j : Fin 128) :
    grpCodes w (ix2 k j) = kCode (kField (amax (grpCol w j) * Ideal.ofBits .f32 0x3B124925#32)) (grpCol w j k) := by
  unfold grpCodes
  refine (clip_chain _ _ _ _ _ _).trans ?_
  rw [broadcastTo_apply _ _ (ix2 k j) (ix2 0 j) (fun a => by fin_cases a <;> rfl), factor_chain, grpField_apply]
  rfl

/-- A group's stored exponent in a column. -/
theorem grpScale_apply (w : FVec Ideal S32x128 .f32) (j : Fin 128) :
    (grpScale w (ix2 0 j)).setWidth 8 = kScale (kField (amax (grpCol w j) * Ideal.ofBits .f32 0x3B124925#32)) := by
  rw [← grpField_apply]; rfl

/-! ## A column tile -/

theorem concatenate_congr {α : Type} {t : Shape} (a : Fin t.rank) (xs ys : List ((s : Shape) × (s.Idx → α))) (e : xs = ys)
    (hx : Shape.Concatenates (xs.map (·.1)) t a) (hy : Shape.Concatenates (ys.map (·.1)) t a) (j : t.Idx) :
    concatenate t a xs hx j = concatenate t a ys hy j := by subst e; rfl

/-- A list of 28 written out is the list of a function's values. -/
theorem list_28 {β : Type} (f : Fin 28 → β) :
    [f 0, f 1, f 2, f 3, f 4, f 5, f 6, f 7, f 8, f 9, f 10, f 11, f 12, f 13, f 14, f 15, f 16, f 17, f 18, f 19, f 20, f 21, f 22,
      f 23, f 24, f 25, f 26, f 27] = List.ofFn f := by
  simp only [List.ofFn_succ, List.ofFn_zero]; rfl

/-- A column tile's codes, transposed, at an index. -/
theorem tileCodes_apply (f : Fin 28 → FVec Ideal S32x128 .fp8e4m3) (j : Fin 128) (g : Fin 28) (k : Fin 32) (r : Fin 896)
    (hr : r.val = g.val * 32 + k.val) : tileCodes f (ix3 0 j r) = f g (ix2 k j) := by
  unfold tileCodes
  refine (shapeCast_addUnit_apply ![128, 896] _ _ (ix3 0 j r)).trans ?_
  refine (transpose_apply _ _ _ _ (ix2 r j) (fun a => by fin_cases a <;> rfl)).trans ?_
  have e := list_28 fun n => (⟨S32x128, f n⟩ : (s : Shape) × (s.Idx → Ideal .fp8e4m3))
  refine (concatenate_congr _ _ _ e _ (e ▸ concatenates_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S896x128_d0) _).trans ?_
  refine concatenate_ofFn_apply (t := S896x128) (s₁ := S32x128) (0 : Fin 2) f _ rfl 32 rfl _ g ?_ _ ?_ ?_
  · show r.val / 32 = g.val; omega
  · show k.val = r.val % 32; omega
  · intro a ha; fin_cases a
    · exact absurd rfl ha
    · rfl

theorem cut_chain {s : Shape} (v : IVec s 32) (h : 8 < 32) (i : s.Idx) : trunci 8 v h i = (v i).setWidth 8 := rfl

/-- A column tile's stored exponents, transposed, at an index. -/
theorem tileScale_apply (f : Fin 28 → IVec S1x128 32) (j : Fin 128) (g : Fin 28) :
    tileScale f (ix3 0 j g) = (f g (ix2 0 j)).setWidth 8 := by
  unfold tileScale
  refine (shapeCast_addUnit_apply ![128, 28] _ _ (ix3 0 j g)).trans ?_
  refine (cut_chain _ _ _).trans (congrArg (fun z : BitVec 32 => z.setWidth 8) ?_)
  refine (transpose_apply _ _ _ _ (ix2 g j) (fun a => by fin_cases a <;> rfl)).trans ?_
  have e := list_28 fun n => (⟨S1x128, f n⟩ : (s : Shape) × (s.Idx → BitVec 32))
  refine (concatenate_congr _ _ _ e _ (e ▸ concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S28x128_d0) _).trans ?_
  refine concatenate_ofFn_apply (t := S28x128) (s₁ := S1x128) (0 : Fin 2) f _ rfl 1 rfl _ g ?_ _ ?_ ?_
  · show g.val / 1 = g.val; omega
  · show 0 = g.val % 1; omega
  · intro a ha; fin_cases a
    · exact absurd rfl ha
    · rfl

/-! ## The block -/

section
variable (q : FVec Ideal S896x512 .f32) (x0 : Vec Ideal S1x896x512 .fp8e4m3) (x2 : Vec Ideal S1x896x512 .bf16)

/-- The 32 products of row group `g` in column `j` of the block. -/
def kBlock (g : Fin 28) (j : Fin 512) (k : Fin 32) : EReal :=
  kW (q (ix2 ⟨g.val * 32 + k.val, by omega⟩ j)) (x0 (ix3 0 ⟨g.val * 32 + k.val, by omega⟩ j)) (x2 (ix3 0 ⟨g.val * 32 + k.val, by omega⟩ j))

/-- The products of a group of a column tile, in the whole block. -/
theorem wAt_apply (cc : Fin 4) (g : Fin 28) (j : Fin 128) (J : Fin 512) (hJ : J.val = 128 * cc.val + j.val) :
    grpCol (wAt q x0 x2 cc g) j = kBlock q x0 x2 g J := by
  funext k
  unfold grpCol wAt kBlock
  refine (grpW_apply _ _ _ k j).trans ?_
  have e3 : ∀ {α : Type} (x : S1x896x512.Idx → α), extractStridedSlice S1x32x128 ![0, 32 * g.val, 128 * cc.val] x ⟨rfl, grp_inb cc g⟩ (ix3 0 k j)
      = x (ix3 0 ⟨g.val * 32 + k.val, by omega⟩ J) := fun x =>
    extractStridedSlice_apply _ x _ _ _ (fun a => by
      fin_cases a
      · rfl
      · show g.val * 32 + k.val = 32 * g.val + k.val; omega
      · exact hJ)
  have e2 : extractStridedSlice S32x128 ![32 * g.val, 128 * cc.val] q (grp_slices cc g) (ix2 k j)
      = q (ix2 ⟨g.val * 32 + k.val, by omega⟩ J) :=
    extractStridedSlice_apply _ q _ _ _ (fun a => by
      fin_cases a
      · show g.val * 32 + k.val = 32 * g.val + k.val; omega
      · exact hJ)
  rw [View.ld_unit, View.ld_unit]
  exact congr (congr (congrArg kW e2) (e3 x0)) (e3 x2)

/-- The codes of the block, as a function of its index; and the stored exponents. -/
def kCodeAt (j : Fin 512) (r : Fin 896) : EReal :=
  kCode (kField (amax (kBlock q x0 x2 ⟨r.val / 32, by omega⟩ j) * Ideal.ofBits .f32 0x3B124925#32))
    (kBlock q x0 x2 ⟨r.val / 32, by omega⟩ j ⟨r.val % 32, by omega⟩)
/-- A block's codes, as an array. -/
def kOutCodes : Vec Ideal S1x512x896 .fp8e4m3 := fun y => kCodeAt q x0 x2 (y 1) (y 2)
/-- A block's stored exponents, as an array. -/
def kOutScale : Vec Ideal S1x512x28 .i8 := fun y =>
  kScale (kField (amax (kBlock q x0 x2 (y 2) (y 1)) * Ideal.ofBits .f32 0x3B124925#32))

/-- An index of an array of one row is its other two coordinates. -/
theorem row_eq {a b : ℕ} (x : (⟨3, ![1, a, b]⟩ : Shape).Idx) : x = ix3 (n0 := 1) (n1 := a) (n2 := b) 0 (x 1) (x 2) :=
  (eq_ix3 x).trans (congrArg (fun z : Fin 1 => ix3 (n0 := 1) (n1 := a) (n2 := b) z (x 1) (x 2)) (Subsingleton.elim (α := Fin 1) _ _))

/-- A column tile's codes are the block's codes at its columns. -/
theorem piece_codes (cc : Fin 4) (o : ℕ) (ho : o = 128 * cc.val) (inb : ∀ a, (![0, o, 0] : Fin 3 → ℕ) a + S1x128x896.size a ≤ S1x512x896.size a)
    (x : S1x128x896.Idx) : tileCodes (fun g => grpCodes (wAt q x0 x2 cc g)) x
      = kOutCodes q x0 x2 ((Rect.unit (s := S1x512x896) ![0, o, 0] S1x128x896.size inb).emb x) := by
  obtain ⟨j, r, rfl⟩ : ∃ (j : Fin 128) (r : Fin 896), x = ix3 0 j r := ⟨x 1, x 2, row_eq x⟩
  have hy1 : ((Rect.unit (s := S1x512x896) ![0, o, 0] S1x128x896.size inb).emb (ix3 0 j r)) 1 = (⟨128 * cc.val + j.val, by omega⟩ : Fin 512) :=
    Fin.ext (show o + 1 * j.val = _ by dsimp only; omega)
  have hy2 : ((Rect.unit (s := S1x512x896) ![0, o, 0] S1x128x896.size inb).emb (ix3 0 j r)) 2 = r :=
    Fin.ext (show 0 + 1 * r.val = _ by omega)
  unfold kOutCodes
  rw [hy1, hy2]
  unfold kCodeAt
  rw [tileCodes_apply _ j ⟨r.val / 32, by omega⟩ ⟨r.val % 32, by omega⟩ r (by dsimp only; omega), grpCodes_apply,
    wAt_apply q x0 x2 cc _ j ⟨128 * cc.val + j.val, by omega⟩ rfl]

/-- A column tile's stored exponents are the block's at its columns. -/
theorem piece_scale (cc : Fin 4) (o : ℕ) (ho : o = 128 * cc.val) (inb : ∀ a, (![0, o, 0] : Fin 3 → ℕ) a + S1x128x28.size a ≤ S1x512x28.size a)
    (x : S1x128x28.Idx) : tileScale (fun g => grpScale (wAt q x0 x2 cc g)) x
      = kOutScale q x0 x2 ((Rect.unit (s := S1x512x28) ![0, o, 0] S1x128x28.size inb).emb x) := by
  obtain ⟨j, g, rfl⟩ : ∃ (j : Fin 128) (g : Fin 28), x = ix3 0 j g := ⟨x 1, x 2, row_eq x⟩
  have hy1 : ((Rect.unit (s := S1x512x28) ![0, o, 0] S1x128x28.size inb).emb (ix3 0 j g)) 1 = (⟨128 * cc.val + j.val, by omega⟩ : Fin 512) :=
    Fin.ext (show o + 1 * j.val = _ by dsimp only; omega)
  have hy2 : ((Rect.unit (s := S1x512x28) ![0, o, 0] S1x128x28.size inb).emb (ix3 0 j g)) 2 = g :=
    Fin.ext (show 0 + 1 * g.val = _ by omega)
  unfold kOutScale
  rw [hy1, hy2, tileScale_apply, grpScale_apply, wAt_apply q x0 x2 cc _ j ⟨128 * cc.val + j.val, by omega⟩ rfl]

/-- The block of codes that the body stores. -/
theorem outCodes_eq : outCodes q x0 x2 = kOutCodes q x0 x2 := by
  funext y
  unfold outCodes
  refine View.canon_apply_of_pieces (kOutCodes q x0 x2) _ ?_ y (cover5 _ _ _ _ y)
  intro p hp
  simp only [List.mem_cons, List.not_mem_nil, or_false] at hp
  rcases hp with rfl | rfl | rfl | rfl
  · exact piece_codes q x0 x2 3 384 rfl inb_S1x512x896_S1x128x896_0_384_0
  · exact piece_codes q x0 x2 2 256 rfl inb_S1x512x896_S1x128x896_0_256_0
  · exact piece_codes q x0 x2 1 128 rfl inb_S1x512x896_S1x128x896_0_128_0
  · exact piece_codes q x0 x2 0 0 rfl inb_S1x512x896_S1x128x896_0_0_0

/-- The block of stored exponents that the body stores. -/
theorem outScale_eq : outScale q x0 x2 = kOutScale q x0 x2 := by
  funext y
  unfold outScale
  refine View.canon_apply_of_pieces (kOutScale q x0 x2) _ ?_ y (cover6 _ _ _ _ y)
  intro p hp
  simp only [List.mem_cons, List.not_mem_nil, or_false] at hp
  rcases hp with rfl | rfl | rfl | rfl
  · exact piece_scale q x0 x2 3 384 rfl inb_S1x512x28_S1x128x28_0_384_0
  · exact piece_scale q x0 x2 2 256 rfl inb_S1x512x28_S1x128x28_0_256_0
  · exact piece_scale q x0 x2 1 128 rfl inb_S1x512x28_S1x128x28_0_128_0
  · exact piece_scale q x0 x2 0 0 rfl inb_S1x512x28_S1x128x28_0_0_0

end

end Cert.KernelIdeal.Gen

end
-- ==== Proof.KernelIdealScales.lean ====
/- The unpacked scales of a grid point's block, read at an index: three quarters of the scale of the channel's block of
   32, at each row. -/
module

public import proofs.«01_k».proof.Proof.KernelIdealFrame
public import proofs.«01_k».proof.Proof.KernelIdealTileValue
public import Idealize.ShloMosaic.Lib.Pointwise.Contract

@[expose] public section

set_option maxRecDepth 16384

noncomputable section

namespace Cert.KernelIdeal.Gen

open Idealize.ShloMosaic Cert.Scalar

/-! ## The table of expanders -/

/-- The kernel's floor of a quotient by 32. -/
def quot32 (n : BitVec 32) : BitVec 32 :=
  Scalar.select
    (IntOp.andi
      (IntOp.cmpi .ne (IntOp.subi ((IntOp.cmpi .sgt n 0#32).setWidth 32) ((IntOp.cmpi .slt n 0#32).setWidth 32))
        (Scalar.subi (Scalar.extui (Scalar.cmpi .sgt 32#32 0#32)) (Scalar.extui (Scalar.cmpi .slt 32#32 0#32))))
      (IntOp.cmpi .ne (IntOp.remsi .vector n 32#32) 0#32))
    (IntOp.subi (IntOp.divsi .vector n 32#32) 1#32) (IntOp.divsi .vector n 32#32)

theorem quot32_eq : ∀ ch : Fin 4096, quot32 (BitVec.ofNat 32 ch.val) = BitVec.ofNat 32 (ch.val / 32) := by decide +kernel

/-- The table of expanders, at an index, as the kernel computes it. -/
theorem expander_apply (g : Fin 128) (ch : Fin 4096) :
    k0_pay2 (F := Ideal) (ix2 g ch)
      = Scalar.select (IntOp.cmpi .eq (BitVec.ofNat 32 g.val) (quot32 (BitVec.ofNat 32 ch.val))) (Ideal.ofBits .f32 0x3F400000#32) (Ideal.ofBits .f32 0x00000000#32) := by
  unfold k0_pay2
  rw [shapeCast_self]
  have e0 : iota .tc S128x4096 32 [0] iota_S128x4096_d0_w32 (ix2 g ch) = BitVec.ofNat 32 g.val := iota_single_apply _ _ _ _ _ _
  have e1 : iota .tc S128x4096 32 [1] iota_S128x4096_d1_w32 (ix2 g ch) = BitVec.ofNat 32 ch.val := iota_single_apply _ _ _ _ _ _
  rw [← e0, ← e1]
  generalize iota .tc S128x4096 32 [0] iota_S128x4096_d0_w32 = a
  generalize iota .tc S128x4096 32 [1] iota_S128x4096_d1_w32 = b
  rfl

theorem ofBits_three_quarters : Ideal.ofBits .f32 0x3F400000#32 = ((3 / 4 : ℝ) : EReal) := by
  simp [Ideal.ofBits, Ideal.ieee, -EReal.coe_mul]; norm_num

/-- Entry `(g, ch)` of the table: three quarters where `g` is the channel's block, zero elsewhere. -/
theorem expander_eq (g : Fin 128) (ch : Fin 4096) :
    k0_pay2 (F := Ideal) (ix2 g ch) = if g.val = ch.val / 32 then ((3 / 4 : ℝ) : EReal) else 0 := by
  rw [expander_apply, quot32_eq, ofBits_three_quarters, ofBits_zero]
  have hg := g.isLt; have hc := ch.isLt
  unfold Scalar.select IntOp.cmpi
  by_cases h : g.val = ch.val / 32
  · rw [h]; simp
  · have hne : BitVec.ofNat 32 g.val ≠ BitVec.ofNat 32 (ch.val / 32) := fun e => h (by
      have := congrArg BitVec.toNat e
      rw [BitVec.toNat_ofNat, BitVec.toNat_ofNat, Nat.mod_eq_of_lt (by omega), Nat.mod_eq_of_lt (by omega)] at this
      exact this)
    have hb : (BitVec.ofNat 32 g.val == BitVec.ofNat 32 (ch.val / 32)) = false := beq_eq_false_iff_ne.mpr hne
    rw [if_neg h]
    simp only [hb]
    rfl

/-! ## The product of the two tables -/

/-- The product with a window of the expanders picks one scale of the row, times 3/4. -/
theorem pay5_apply (r : Vec Ideal S896x128 .bf16) (e : Vec Ideal S128x512 .bf16) (s : Fin 896) (j : Fin 512) (g : Fin 128)
    (he : ∀ k : Fin 128, e (ix2 k j) = if k.val = g.val then ((3 / 4 : ℝ) : EReal) else 0) :
    k0_pay5 r e (ix2 s j) = r (ix2 s g) * ((3 / 4 : ℝ) : EReal) := by
  unfold k0_pay5
  refine (Ideal.matmul_apply₁_of dot_S896x128_S128x512_S896x512_1_0_0_1_n_n (a := 1) rfl (K := 128) rfl r e _ (ix2 s j)
    (fun k => ix2 s k) (fun k => ix2 k j) ?_ ?_).trans ?_
  · intro k; funext a; fin_cases a <;> rfl
  · intro k; funext a; fin_cases a <;> rfl
  · rw [Finset.sum_eq_single g]
    · rw [he, if_pos rfl]
      refine (congrArg (fun z : EReal => z + r (ix2 s g) * ((3 / 4 : ℝ) : EReal)) ofBits_zero).trans ?_
      exact zero_add _
    · intro k _ hk
      rw [he, if_neg (fun h => hk (Fin.ext h)), mul_zero]
    · intro h; exact absurd (Finset.mem_univ g) h

/-! ## The unpacked scales -/

/-- Three quarters of the scale of a stored exponent. -/
def kS (n : BitVec 8) : EReal := Ideal.ofBits .f32 (IntOp.shli .vector (n.setWidth 32) 23#32) * ((3 / 4 : ℝ) : EReal)

/-- A point's scale bytes, read as exponent fields. -/
theorem pay4_apply (x1 : Vec Ideal S1x896x800 .i8) (s : Fin 896) (G : Fin 800) :
    k0_pay4 (F := Ideal) x1 (ix2 s G) = Ideal.ofBits .f32 (IntOp.shli .vector ((x1 (ix3 0 s G)).setWidth 32) 23#32) := by
  unfold k0_pay4
  rw [shapeCast_self]
  have e : shapeCast S896x800 x1 shapeCasts_S1x896x800_S896x800 (ix2 s G) = x1 (ix3 0 s G) := by
    refine (shapeCast_dropUnit_apply ![896, 800] x1 _ (ix2 s G)).trans (congrArg x1 ?_)
    funext a; fin_cases a <;> rfl
  rw [← e]
  rfl

variable (m : (ℓ : Loc nD τ sig) → Buf (Elt Ideal) ℓ)

/-- The scratch of scales holds the batch's scales at its first 800 columns. -/
theorem scalesAt_apply (c : Dev nD) (t : Fin cfg0.N) (s : Fin 896) (G : Fin 800) (G' : Fin 896) (hG : G'.val = G.val) :
    scalesAt m c t (ix2 s G') = Ideal.ofBits .f32 (IntOp.shli .vector (((iblk m c 1 t : Vec Ideal S1x896x800 .i8) (ix3 0 s G)).setWidth 32) 23#32) := by
  rw [← pay4_apply]
  unfold scalesAt
  have e : (Rect.unit (s := S896x896) ![0, 0] S896x800.size inb_S896x896_S896x800_0_0).emb (ix2 s G) = ix2 s G' := by
    funext a; apply Fin.ext; fin_cases a
    · show 0 + 1 * s.val = s.val; omega
    · show 0 + 1 * G.val = G'.val; omega
  rw [← e, Rect.overlay_emb]

/-- The factor a code is multiplied with: the scale of its channel, times 3/4. -/
theorem qAt_apply (c : Dev nD) (t : Fin cfg0.N) (s : Fin 896) (j : Fin 512) (G : Fin 800) (hG : G.val = (512 * (t.val % 50) + j.val) / 32) :
    qAt m c t (ix2 s j) = kS ((iblk m c 1 t : Vec Ideal S1x896x800 .i8) (ix3 0 s G)) := by
  have hlt : t.val % 50 < 50 := Nat.mod_lt _ (by decide)
  have hj := j.isLt
  unfold qAt unpacked kS
  rw [View.ld_unit, View.ld_unit]
  refine (pay5_apply _ _ s j ⟨(t.val % 50 % 8 * 512 + j.val) / 32, by omega⟩ ?_).trans ?_
  · intro k
    refine (extractStridedSlice_apply _ _ _ _ (ix2 k (⟨t.val % 50 % 8 * 512 + j.val, by omega⟩ : Fin 4096)) (fun a => ?_)).trans ?_
    · refine Eq.trans ?_ (congrArg (fun z : Nat => z + _) (congrFun (off2_eq (grid0.coords t)) a).symm)
      have h1 := coords1 t
      fin_cases a
      · exact (Nat.zero_add _).symm
      · show t.val % 50 % 8 * 512 + j.val = ((grid0.coords t) 1).val % 8 * 512 + j.val
        rw [h1]
    · exact expander_eq k _
  · refine congrArg (fun z : EReal => z * ((3 / 4 : ℝ) : EReal)) ?_
    refine (extractStridedSlice_apply _ _ _ _ (ix2 s (⟨G.val, by have := G.isLt; omega⟩ : Fin 896)) (fun a => ?_)).trans ?_
    · refine Eq.trans ?_ (congrArg (fun z : Nat => z + _) (congrFun (off1_eq (grid0.coords t)) a).symm)
      have h1 := coords1 t
      fin_cases a
      · exact (Nat.zero_add _).symm
      · show G.val = ((grid0.coords t) 1).val / 8 * 128 + (t.val % 50 % 8 * 512 + j.val) / 32
        rw [h1]; omega
    · exact scalesAt_apply m c t s G _ rfl

end Cert.KernelIdeal.Gen

end
-- ==== Proof.KernelIdealArrays.lean ====
/- The ideal kernel's two result arrays after a run, as functions of the argument arrays. -/
module

public import proofs.«01_k».proof.Proof.KernelIdealScales
public import Idealize.ShloMosaic.Lib.Pipeline.ValueKit

@[expose] public section

set_option maxRecDepth 16384

noncomputable section

namespace Cert.KernelIdeal.Gen

open Idealize.ShloMosaic Idealize.ShloMosaic.TcCoe Idealize.SL.Sem Cert.Scalar

/-! ## The results of whole argument arrays -/

section Whole
variable (X0 : Vec Ideal S2x896x25600 .fp8e4m3) (X1 : Vec Ideal S2x896x800 .i8) (X2 : Vec Ideal S2x896x25600 .bf16)

/-- The 32 products of a block: one batch, one channel, 32 consecutive positions. -/
def wBlock (b : Fin 2) (g : Fin 28) (d : Fin 25600) (k : Fin 32) : EReal :=
  kW (kS (X1 (ix3 b (⟨g.val * 32 + k.val, by omega⟩ : Fin 896) (⟨d.val / 32, by omega⟩ : Fin 800))))
    (X0 (ix3 b (⟨g.val * 32 + k.val, by omega⟩ : Fin 896) d)) (X2 (ix3 b (⟨g.val * 32 + k.val, by omega⟩ : Fin 896) d))

/-- The code at a position of a channel. -/
def wCode (b : Fin 2) (d : Fin 25600) (r : Fin 896) : EReal :=
  kCode (kField (amax (wBlock X0 X1 X2 b ⟨r.val / 32, by omega⟩ d) * Ideal.ofBits .f32 0x3B124925#32))
    (wBlock X0 X1 X2 b ⟨r.val / 32, by omega⟩ d ⟨r.val % 32, by omega⟩)
/-- The stored exponent of a block. -/
def wScale (b : Fin 2) (d : Fin 25600) (g : Fin 28) : BitVec 8 :=
  kScale (kField (amax (wBlock X0 X1 X2 b g d) * Ideal.ofBits .f32 0x3B124925#32))

/-- The codes, as an array. -/
def wCodes : Vec Ideal S2x25600x896 .fp8e4m3 := fun i => wCode X0 X1 X2 (i 0) (i 1) (i 2)
/-- The stored exponents, as an array. -/
def wScales : Vec Ideal S2x25600x28 .i8 := fun i => wScale X0 X1 X2 (i 0) (i 1) (i 2)

theorem wCodes_apply (b : Fin 2) (d : Fin 25600) (r : Fin 896) : wCodes X0 X1 X2 (ix3 b d r) = wCode X0 X1 X2 b d r := rfl
theorem wScales_apply (b : Fin 2) (d : Fin 25600) (g : Fin 28) : wScales X0 X1 X2 (ix3 b d g) = wScale X0 X1 X2 b d g := rfl
end Whole

section Tile
variable (q : Vec Ideal S896x512 .f32) (x0 : Vec Ideal S1x896x512 .fp8e4m3) (x2 : Vec Ideal S1x896x512 .bf16)

/-- The stored exponent of a block of the tile. -/
def kScaleAt (j : Fin 512) (g : Fin 28) : BitVec 8 := kScale (kField (amax (kBlock q x0 x2 g j) * Ideal.ofBits .f32 0x3B124925#32))

theorem kOutCodes_apply (y : S1x512x896.Idx) : kOutCodes q x0 x2 y = kCodeAt q x0 x2 (y 1) (y 2) := rfl
theorem kOutScale_apply (y : S1x512x28.Idx) : kOutScale q x0 x2 y = kScaleAt q x0 x2 (y 1) (y 2) := rfl
end Tile

variable (m : (ℓ : Loc nD τ sig) → Buf (Elt Ideal) ℓ)

/-! ## A point's blocks, in the argument arrays -/

/-- The batch and the first channel of a point. -/
def ptB (t : Fin cfg0.N) : Fin 2 := ⟨t.val / 50, by have : t.val < 100 := Nat.lt_of_lt_of_eq t.isLt N_0; omega⟩
/-- The channel of a point that is the `j`-th of its block. -/
def ptD (t : Fin cfg0.N) (j : Fin 512) : Fin 25600 := ⟨512 * (t.val % 50) + j.val, by have := Nat.mod_lt t.val (show 0 < 50 by decide); omega⟩

/-- A point's block of codes, in the array of codes. -/
theorem iblk0_apply (c : Dev nD) (t : Fin cfg0.N) (s : Fin 896) (j : Fin 512) :
    (iblk m c 0 t : Vec Ideal S1x896x512 .fp8e4m3) (ix3 0 s j) = V m c main_v0 (ix3 (ptB t) s (ptD t j)) := by
  show V m c main_v0 ((win0_0.rect t).emb (ix3 (0 : Fin 1) s j)) = _
  congr 1
  funext a
  apply Fin.ext
  rw [Pipeline.Window.rect_emb_val win0_0]
  show cc0_transform_0 (grid0.coords t) a * _ + _ = _
  rw [idx0_0]
  fin_cases a
  · show t.val / 50 * 1 + 0 = t.val / 50; omega
  · show 0 * 896 + s.val = s.val; omega
  · show t.val % 50 * 512 + j.val = 512 * (t.val % 50) + j.val; omega

/-- A point's block of scales, in the array of scales. -/
theorem iblk1_apply (c : Dev nD) (t : Fin cfg0.N) (s : Fin 896) (g : Fin 800) :
    (iblk m c 1 t : Vec Ideal S1x896x800 .i8) (ix3 0 s g) = V m c main_arg1 (ix3 (ptB t) s g) := by
  show V m c main_arg1 ((win0_1.rect t).emb (ix3 (0 : Fin 1) s g)) = _
  congr 1
  funext a
  apply Fin.ext
  rw [Pipeline.Window.rect_emb_val win0_1]
  show cc0_transform_1 (grid0.coords t) a * _ + _ = _
  rw [idx0_1]
  fin_cases a
  · show t.val / 50 * 1 + 0 = t.val / 50; omega
  · show 0 * 896 + s.val = s.val; omega
  · show 0 * 800 + g.val = g.val; omega

/-- A point's block of the pre-activations, in their array. -/
theorem iblk2_apply (c : Dev nD) (t : Fin cfg0.N) (s : Fin 896) (j : Fin 512) :
    (iblk m c 2 t : Vec Ideal S1x896x512 .bf16) (ix3 0 s j) = V m c main_arg2 (ix3 (ptB t) s (ptD t j)) := by
  show V m c main_arg2 ((win0_2.rect t).emb (ix3 (0 : Fin 1) s j)) = _
  congr 1
  funext a
  apply Fin.ext
  rw [Pipeline.Window.rect_emb_val win0_2]
  show cc0_transform_2 (grid0.coords t) a * _ + _ = _
  rw [idx0_2]
  fin_cases a
  · show t.val / 50 * 1 + 0 = t.val / 50; omega
  · show 0 * 896 + s.val = s.val; omega
  · show t.val % 50 * 512 + j.val = 512 * (t.val % 50) + j.val; omega

/-- The products a point quantises are those of its batch and channels. -/
theorem kBlock_eq (c : Dev nD) (t : Fin cfg0.N) (g : Fin 28) (j : Fin 512) :
    kBlock (qAt m c t) (iblk m c 0 t) (iblk m c 2 t) g j
      = wBlock (V m c main_v0) (V m c main_arg1) (V m c main_arg2) (ptB t) g (ptD t j) := by
  funext k
  unfold kBlock wBlock
  rw [qAt_apply m c t _ j ⟨(ptD t j).val / 32, by omega⟩ rfl, iblk1_apply]
  exact congrArg₂ (kW _) (iblk0_apply m c t _ j) (iblk2_apply m c t _ j)

/-- Where a point's block of codes lies in the result. -/
theorem emb3 (t : Fin cfg0.N) (y : S1x512x896.Idx) :
    (win0_3.rect t).emb y = ix3 (ptB t) (ptD t (y 1)) (y 2) := by
  funext a
  apply Fin.ext
  rw [Pipeline.Window.rect_emb_val win0_3]
  show cc0_transform_3 (grid0.coords t) a * _ + _ = _
  rw [idx0_3]
  fin_cases a
  · have h0 : (y 0).val < 1 := (y 0).isLt
    show t.val / 50 * 1 + (y 0).val = t.val / 50; omega
  · show t.val % 50 * 512 + (y 1).val = 512 * (t.val % 50) + (y 1).val; omega
  · show 0 * 896 + (y 2).val = (y 2).val; omega

/-- Where a point's block of stored exponents lies in the result. -/
theorem emb4 (t : Fin cfg0.N) (y : S1x512x28.Idx) :
    (win0_4.rect t).emb y = ix3 (ptB t) (ptD t (y 1)) (y 2) := by
  funext a
  apply Fin.ext
  rw [Pipeline.Window.rect_emb_val win0_4]
  show cc0_transform_4 (grid0.coords t) a * _ + _ = _
  rw [idx0_4]
  fin_cases a
  · have h0 : (y 0).val < 1 := (y 0).isLt
    show t.val / 50 * 1 + (y 0).val = t.val / 50; omega
  · show t.val % 50 * 512 + (y 1).val = 512 * (t.val % 50) + (y 1).val; omega
  · show 0 * 28 + (y 2).val = (y 2).val; omega

/-- A point's codes are those of its batch and channels. -/
theorem kCodeAt_eq (c : Dev nD) (t : Fin cfg0.N) (j : Fin 512) (r : Fin 896) :
    kCodeAt (qAt m c t) (iblk m c 0 t) (iblk m c 2 t) j r
      = wCode (V m c main_v0) (V m c main_arg1) (V m c main_arg2) (ptB t) (ptD t j) r := by
  unfold kCodeAt wCode
  rw [kBlock_eq]

/-- A point's stored exponents are those of its batch and channels. -/
theorem kScaleAt_eq (c : Dev nD) (t : Fin cfg0.N) (j : Fin 512) (g : Fin 28) :
    kScaleAt (qAt m c t) (iblk m c 0 t) (iblk m c 2 t) j g
      = wScale (V m c main_v0) (V m c main_arg1) (V m c main_arg2) (ptB t) (ptD t j) g := by
  unfold kScaleAt wScale
  rw [kBlock_eq]

/-! ## The two result arrays -/

/-- The points' blocks of codes cover the result. -/
theorem covers3 : (cfg0.win 3).Covers := by decide +kernel
/-- The points' blocks of stored exponents cover the result. -/
theorem covers4 : (cfg0.win 4).Covers := by decide +kernel

/-- What a point leaves of the codes is the block of the whole result's codes that it writes. -/
theorem codesAt_eq (c : Dev nD) (t : Fin cfg0.N) (y : S1x512x896.Idx) :
    codesAt m c t y = wCodes (V m c main_v0) (V m c main_arg1) (V m c main_arg2) ((win0_3.rect t).emb y) := by
  unfold codesAt
  rw [outCodes_eq, emb3]
  have key : ∀ (j : Fin 512) (r : Fin 896), kCodeAt (qAt m c t) (iblk m c 0 t) (iblk m c 2 t) j r
      = wCodes (V m c main_v0) (V m c main_arg1) (V m c main_arg2) (ix3 (ptB t) (ptD t j) r) :=
    fun j r => (kCodeAt_eq m c t j r).trans (wCodes_apply _ _ _ _ _ _).symm
  exact (kOutCodes_apply _ _ _ y).trans (key (y 1) (y 2))

/-- What a point leaves of the stored exponents is the block of the whole result that it writes. -/
theorem scaleAt_eq (c : Dev nD) (t : Fin cfg0.N) (y : S1x512x28.Idx) :
    scaleAt m c t y = wScales (V m c main_v0) (V m c main_arg1) (V m c main_arg2) ((win0_4.rect t).emb y) := by
  unfold scaleAt
  rw [outScale_eq, emb4]
  have key : ∀ (j : Fin 512) (g : Fin 28), kScaleAt (qAt m c t) (iblk m c 0 t) (iblk m c 2 t) j g
      = wScales (V m c main_v0) (V m c main_arg1) (V m c main_arg2) (ix3 (ptB t) (ptD t j) g) :=
    fun j g => (kScaleAt_eq m c t j g).trans (wScales_apply _ _ _ _ _ _).symm
  exact (kOutScale_apply _ _ _ y).trans (key (y 1) (y 2))

/-- The array of codes after the run. -/
theorem codes_value (c : Dev nD) :
    (dats m 0 c).arrAt 3 (cfgs 0).N = wCodes (V m c main_v0) (V m c main_arg1) (V m c main_arg2) := by
  refine (dats m 0 c).arrAt_eq_of_covers 3 _ covers3 fun t hf y => ?_
  blk_simp
  exact (congrFun (after0_3 m c t) y).trans (codesAt_eq m c t y)

/-- The array of stored exponents after the run. -/
theorem scales_value (c : Dev nD) :
    (dats m 0 c).arrAt 4 (cfgs 0).N = wScales (V m c main_v0) (V m c main_arg1) (V m c main_arg2) := by
  refine (dats m 0 c).arrAt_eq_of_covers 4 _ covers4 fun t hf y => ?_
  blk_simp
  exact (congrFun (after0_4 m c t) y).trans (scaleAt_eq m c t y)

/-- The codes the region is given are the bytes of the first argument, read as codes. -/
theorem V_main_v0 (c : Dev nD) :
    V m c main_v0 = (bitcastToFloat .fp8e4m3 : IVec S2x896x25600 8 → FVec Ideal S2x896x25600 .fp8e4m3) (m ((c : Thread nD τ).loc main_arg0)) := by
  show StableHlo.after hostOps0 _ _ = _
  simp only [hostOps0, StableHlo.after_cons, StableHlo.after_nil]
  exact StableHlo.unary_result _ _ _ _ _ _

end Cert.KernelIdeal.Gen

end
-- ==== Proof.ReferenceValue.lean ====
/- The plain form's two results, read at an index. -/
module

public import proofs.«01_k».proof.Proof.Gen.ReferenceIdeal.Frame
public import proofs.«01_k».proof.Proof.Gen.ReferenceIdeal
public import proofs.«01_k».proof.Proof.Deriv
public import proofs.«01_k».proof.Proof.Quant
public import proofs.«01_k».proof.Proof.Casts
public import Idealize.ShloMosaic.PureOps.Ideal.Laws
public import Idealize.ShloMosaic.PureOps.IdealRules

@[expose] public section

set_option maxRecDepth 16384

noncomputable section

namespace Cert.ReferenceIdeal.Gen

open Idealize.ShloMosaic Cert.Scalar

variable (x0 : FVec Ideal S2x896x25600 .fp8e4m3) (x1 : IVec S2x896x800 8) (x2 : FVec Ideal S2x896x25600 .bf16)

/-- The scale of a channel's block of 32, from its stored exponent. -/
def rS (n : BitVec 8) : EReal := Ideal.exp2 (((IntOp.subi (n.setWidth 32) 127#32).toInt : ℝ) : EReal)

/-- The product the plain form quantises, at one batch, position and channel. -/
def rW (b : Fin 2) (s : Fin 896) (d : Fin 25600) : EReal :=
  (x0 (ix3 b s d) * rS (x1 (ix3 b s ⟨d.val / 32, by omega⟩))) * rD (x2 (ix3 b s d)) (rT (x2 (ix3 b s d)))

/-- The dequantised codes, at an index. -/
theorem pay5_apply (b : Fin 2) (s : Fin 896) (d : Fin 25600) :
    k0_pay5 (F := Ideal) x1 x0 (ix3 b s d) = x0 (ix3 b s d) * rS (x1 (ix3 b s ⟨d.val / 32, by omega⟩)) := by
  unfold k0_pay5
  rw [shapeCast_self]
  refine (shapeCast_join (g := 800) (k := 32) rfl _ _ b s ⟨d.val / 32, by omega⟩ ⟨d.val % 32, by omega⟩ d (by dsimp only; omega)).trans ?_
  refine congrArg₂ (fun a b : EReal => a * b) ?_ ?_
  · exact shapeCast_split (g := 800) (k := 32) rfl x0 _ b s _ _ d (by dsimp only; omega)
  · refine Eq.trans (broadcastTo_apply _ _ _ (ix4 b s (⟨d.val / 32, by omega⟩ : Fin 800) (0 : Fin 1)) (fun a => by fin_cases a <;> rfl)) ?_
    exact shapeCast_split (g := 800) (k := 1) rfl _ _ b s ⟨d.val / 32, by omega⟩ 0 ⟨d.val / 32, by omega⟩ (by simp)

/-- The derivative, at an index. -/
theorem deriv_apply (i : S2x896x25600.Idx) :
    (k0_pay8 (F := Ideal) x2 i + k0_pay9 (F := Ideal) x2 i * k0_pay10 (F := Ideal) x2 i : EReal) = rD (x2 i) (rT (x2 i)) := by
  have hk : (Named.named κ "gelu_k" 0x3D372713#32 : Ideal .f32) = ((8943 / 200000 : ℝ) : EReal) :=
    IdealRules.named_const.ideal_named_scalar _ _ _ _ rfl
  have hc : (Named.named κ "gelu_c" 0x3F4C422A#32 : Ideal .f32) = ((3989422804014327 / 5000000000000000 : ℝ) : EReal) :=
    IdealRules.named_const.ideal_named_scalar _ _ _ _ rfl
  have h3 : (Named.named κ "gelu_3k" 0x3E095D4F#32 : Ideal .f32) = ((26829 / 200000 : ℝ) : EReal) :=
    IdealRules.named_const.ideal_named_scalar _ _ _ _ rfl
  unfold k0_pay8 k0_pay9 k0_pay10 k0_pay7 k0_pay6 rD rT
  dsimp only
  rw [hk, hc, h3, ← ofBits_half, show (1 : EReal) = ((1 : ℝ) : EReal) from rfl, ← ofBits_one]
  rfl

/-- The products, transposed and in blocks of 32 positions. -/
theorem pay1_apply (b : Fin 2) (d : Fin 25600) (g : Fin 28) (k : Fin 32) (r : Fin 896) (hr : r.val = g.val * 32 + k.val) :
    k0_pay1 (F := Ideal) (k0_pay5 x1 x0) (k0_pay8 x2) (k0_pay9 x2) (k0_pay10 x2) (ix4 b d g k) = rW x0 x1 x2 b r d := by
  unfold k0_pay1
  dsimp only
  refine (shapeCast_split (g := 28) (k := 32) rfl _ _ b d g k r hr).trans ?_
  rw [transpose_apply _ _ _ _ (ix3 b r d) (fun a => by fin_cases a <;> rfl)]
  unfold rW
  rw [← pay5_apply, ← deriv_apply]
  rfl

/-- A block's 32 products, and what its exponent is taken of. -/
def rBlock (b : Fin 2) (g : Fin 28) (d : Fin 25600) (k : Fin 32) : EReal := rW x0 x1 x2 b ⟨g.val * 32 + k.val, by omega⟩ d

/-- A block's largest magnitude. -/
theorem max_apply (b : Fin 2) (d : Fin 25600) (g : Fin 28) :
    multiReduction .maximumf [3] S2x25600x28 (absf (k0_pay1 (F := Ideal) (k0_pay5 x1 x0) (k0_pay8 x2) (k0_pay9 x2) (k0_pay10 x2)))
      0xFF800000#32 reduces_S2x25600x28x32_S2x25600x28 (.inl rfl) rfl (ix3 b d g) = amax (rBlock x0 x1 x2 b g d) := by
  refine (Ideal.multiReduction_maximumf_single _ _ _ _ _ _).trans ?_
  unfold amax
  refine congrArg ((Finset.univ : Finset (Fin 32)).fold max (Ideal.ofBits .f32 0xFF800000#32)) (funext fun k : Fin 32 => ?_)
  have e : reduces_S2x25600x28x32_S2x25600x28.lift (ix3 b d g) k = ix4 b d g k := by
    funext a; fin_cases a <;> rfl
  have e1 : k0_pay1 (F := Ideal) (k0_pay5 x1 x0) (k0_pay8 x2) (k0_pay9 x2) (k0_pay10 x2) (reduces_S2x25600x28x32_S2x25600x28.lift (ix3 b d g) k)
      = rBlock x0 x1 x2 b g d k := by
    rw [e]; exact pay1_apply x0 x1 x2 b d g k _ rfl
  exact congrArg (fun z : EReal => max z (-z)) e1

/-- The exponent of a block. -/
theorem pay2_apply (b : Fin 2) (d : Fin 25600) (g : Fin 28) :
    k0_pay2 (F := Ideal) (k0_pay5 x1 x0) (k0_pay8 x2) (k0_pay9 x2) (k0_pay10 x2) (ix3 b d g)
      = rExp (amax (rBlock x0 x1 x2 b g d) * Ideal.ofBits .f32 0x3B124925#32) := by
  have hl : (Named.named κ "ln2" 0x3F317218#32 : Ideal .f32) = ((Real.log 2 : ℝ) : EReal) :=
    IdealRules.named_const.ideal_named_scalar _ _ _ _ rfl
  rw [← max_apply]
  unfold k0_pay2
  dsimp only
  rw [hl]
  exact exponent_chain _ _ _ _ _ _ _

/-- The codes, at an index. -/
theorem out3_apply (b : Fin 2) (d : Fin 25600) (g : Fin 28) (k : Fin 32) (r : Fin 896) (hr : r.val = g.val * 32 + k.val) :
    out0_3 (F := Ideal) x0 x1 x2 (ix3 b d r)
      = rCode (rExp (amax (rBlock x0 x1 x2 b g d) * Ideal.ofBits .f32 0x3B124925#32)) (rBlock x0 x1 x2 b g d k) := by
  unfold out0_3
  rw [View.canon_unit_zero (by funext a; fin_cases a <;> rfl)]
  unfold k0_pay11 k0_pay12 k0_pay13 k0_pay14
  rw [View.ld_unit_zero (by funext a; fin_cases a <;> rfl), View.ld_unit_zero (by funext a; fin_cases a <;> rfl), View.ld_unit_zero (by funext a; fin_cases a <;> rfl)]
  rw [← pay2_apply]
  have e1 : k0_pay1 (F := Ideal) (k0_pay5 x1 x0) (k0_pay8 x2) (k0_pay9 x2) (k0_pay10 x2) (ix4 b d g k) = rBlock x0 x1 x2 b g d k :=
    pay1_apply x0 x1 x2 b d g k _ rfl
  rw [← e1]
  generalize k0_pay5 (F := Ideal) x1 x0 = v13
  generalize k0_pay8 (F := Ideal) x2 = v27
  generalize k0_pay9 (F := Ideal) x2 = v35
  generalize k0_pay10 (F := Ideal) x2 = v40
  unfold k0_pay3 rCode
  generalize k0_pay1 (F := Ideal) v13 v27 v35 v40 = w
  generalize k0_pay2 (F := Ideal) v13 v27 v35 v40 = e
  refine (shapeCast_join (g := 28) (k := 32) rfl _ _ b d g k r hr).trans ?_
  refine (clip_chain _ _ _ _ _ _).trans ?_
  refine congrArg (fun z : EReal => min (Ideal.ofBits .f32 0x43E00000#32) (max (Ideal.ofBits .f32 0xC3E00000#32) (w (ix4 b d g k) * z))) ?_
  refine Eq.trans (broadcastTo_apply _ _ _ (ix4 b d g (0 : Fin 1)) (fun a => by fin_cases a <;> rfl)) ?_
  refine (shapeCast_split (g := 28) (k := 1) rfl _ _ b d g 0 g (by simp)).trans ?_
  exact power_chain _ _ _

/-- The stored exponents, at an index. -/
theorem out4_apply (b : Fin 2) (d : Fin 25600) (g : Fin 28) :
    out0_4 (F := Ideal) x0 x1 x2 (ix3 b d g) = rScale (rExp (amax (rBlock x0 x1 x2 b g d) * Ideal.ofBits .f32 0x3B124925#32)) := by
  unfold out0_4
  rw [View.canon_unit_zero (by funext a; fin_cases a <;> rfl)]
  unfold k0_pay11 k0_pay12 k0_pay13 k0_pay14
  rw [View.ld_unit_zero (by funext a; fin_cases a <;> rfl), View.ld_unit_zero (by funext a; fin_cases a <;> rfl), View.ld_unit_zero (by funext a; fin_cases a <;> rfl)]
  rw [← pay2_apply]
  generalize k0_pay5 (F := Ideal) x1 x0 = v13
  generalize k0_pay8 (F := Ideal) x2 = v27
  generalize k0_pay9 (F := Ideal) x2 = v35
  generalize k0_pay10 (F := Ideal) x2 = v40
  unfold k0_pay4 rScale
  exact stored_chain _ _ _ _

end Cert.ReferenceIdeal.Gen

end
-- ==== Proof.ReferenceIdealArrays.lean ====
/- The plain form's two result arrays after a run, as functions of the argument arrays. -/
module

public import proofs.«01_k».proof.Proof.ReferenceValue
public import Idealize.ShloMosaic.Lib.Pipeline.ValueKit

@[expose] public section

set_option maxRecDepth 16384

noncomputable section

namespace Cert.ReferenceIdeal.Gen

open Idealize.ShloMosaic Idealize.ShloMosaic.TcCoe Idealize.SL.Sem

variable (m : (ℓ : Loc nD τ sig) → Buf (Elt Ideal) ℓ)

/-- The block of codes is the whole array. -/
theorem iblk0_eq (c : Dev nD) (t : Fin cfg0.N) : (iblk m c 0 t : Vec Ideal S2x896x25600 .fp8e4m3) = V m c main_v0 := by
  funext y
  show V m c main_v0 ((win0_0.rect t).emb y) = _
  refine congrArg (V m c main_v0) (funext fun a => Fin.ext ?_)
  rw [Pipeline.Window.rect_emb_val win0_0]
  show 0 * _ + (y a).val = (y a).val
  rw [Nat.zero_mul, Nat.zero_add]

/-- The block of scales is the whole array. -/
theorem iblk1_eq (c : Dev nD) (t : Fin cfg0.N) : (iblk m c 1 t : Vec Ideal S2x896x800 .i8) = V m c main_arg1 := by
  funext y
  show V m c main_arg1 ((win0_1.rect t).emb y) = _
  refine congrArg (V m c main_arg1) (funext fun a => Fin.ext ?_)
  rw [Pipeline.Window.rect_emb_val win0_1]
  show 0 * _ + (y a).val = (y a).val
  rw [Nat.zero_mul, Nat.zero_add]

/-- The block of pre-activations is the whole array. -/
theorem iblk2_eq (c : Dev nD) (t : Fin cfg0.N) : (iblk m c 2 t : Vec Ideal S2x896x25600 .bf16) = V m c main_arg2 := by
  funext y
  show V m c main_arg2 ((win0_2.rect t).emb y) = _
  refine congrArg (V m c main_arg2) (funext fun a => Fin.ext ?_)
  rw [Pipeline.Window.rect_emb_val win0_2]
  show 0 * _ + (y a).val = (y a).val
  rw [Nat.zero_mul, Nat.zero_add]

theorem covers3 : (cfg0.win 3).Covers := by decide +kernel
theorem covers4 : (cfg0.win 4).Covers := by decide +kernel

theorem emb3 (t : Fin cfg0.N) (y : S2x25600x896.Idx) : (win0_3.rect t).emb y = y := by
  refine funext fun a => Fin.ext ?_
  rw [Pipeline.Window.rect_emb_val win0_3]
  show 0 * _ + (y a).val = (y a).val
  rw [Nat.zero_mul, Nat.zero_add]

theorem emb4 (t : Fin cfg0.N) (y : S2x25600x28.Idx) : (win0_4.rect t).emb y = y := by
  refine funext fun a => Fin.ext ?_
  rw [Pipeline.Window.rect_emb_val win0_4]
  show 0 * _ + (y a).val = (y a).val
  rw [Nat.zero_mul, Nat.zero_add]

/-- What the body stores of the codes, of the whole arrays. -/
theorem after3_eq (c : Dev nD) (t : Fin cfg0.N) (y : S2x25600x896.Idx) :
    out0_3 (iblk m c 0 t) (iblk m c 1 t) (iblk m c 2 t) y
      = out0_3 (F := Ideal) (V m c main_v0) (V m c main_arg1) (V m c main_arg2) ((win0_3.rect t).emb y) := by
  rw [emb3, iblk0_eq, iblk1_eq, iblk2_eq]

/-- What the body stores of the exponents, of the whole arrays. -/
theorem after4_eq (c : Dev nD) (t : Fin cfg0.N) (y : S2x25600x28.Idx) :
    out0_4 (iblk m c 0 t) (iblk m c 1 t) (iblk m c 2 t) y
      = out0_4 (F := Ideal) (V m c main_v0) (V m c main_arg1) (V m c main_arg2) ((win0_4.rect t).emb y) := by
  rw [emb4, iblk0_eq, iblk1_eq, iblk2_eq]

/-- The array of codes after the run. -/
theorem codes_value (c : Dev nD) :
    (dats m 0 c).arrAt 3 (cfgs 0).N = out0_3 (F := Ideal) (V m c main_v0) (V m c main_arg1) (V m c main_arg2) := by
  refine (dats m 0 c).arrAt_eq_of_covers 3 _ covers3 fun t hf y => ?_
  blk_simp
  exact (congrFun (after0_3 m c t) y).trans (after3_eq m c t y)

/-- The array of stored exponents after the run. -/
theorem scales_value (c : Dev nD) :
    (dats m 0 c).arrAt 4 (cfgs 0).N = out0_4 (F := Ideal) (V m c main_v0) (V m c main_arg1) (V m c main_arg2) := by
  refine (dats m 0 c).arrAt_eq_of_covers 4 _ covers4 fun t hf y => ?_
  blk_simp
  exact (congrFun (after0_4 m c t) y).trans (after4_eq m c t y)

/-- The codes the region is given are the bytes of the first argument, read as codes. -/
theorem V_main_v0 (c : Dev nD) :
    V m c main_v0 = (bitcastToFloat .fp8e4m3 : IVec S2x896x25600 8 → FVec Ideal S2x896x25600 .fp8e4m3) (m ((c : Thread nD τ).loc main_arg0)) := by
  show StableHlo.after hostOps0 _ _ = _
  simp only [hostOps0, StableHlo.after_cons, StableHlo.after_nil]
  exact StableHlo.unary_result _ _ _ _ _ _

end Cert.ReferenceIdeal.Gen

end
-- ==== Proof.Agree.lean ====
/- At the arguments the precondition admits, the kernel and the plain form give the same two results. -/
module

public import proofs.«01_k».proof.Proof.KernelIdealArrays
public import proofs.«01_k».proof.Proof.ReferenceIdealArrays

@[expose] public section

set_option maxRecDepth 16384

noncomputable section

namespace Cert.Agree

open Idealize.ShloMosaic Cert.Scalar
open Cert.KernelIdeal.Gen (kS kW wBlock wCode wScale wCodes wScales)
open Cert.ReferenceIdeal.Gen (rS rW rBlock)

/-- The kernel's scale of a stored exponent that is not an end of the range. -/
theorem kS_eq (n : BitVec 8) (h1 : 1 ≤ n.toNat) (h2 : n.toNat ≤ 253) :
    kS n = (((2 : ℝ) ^ ((n.toNat : ℤ) - 127) * (3 / 4) : ℝ) : EReal) := by
  have e : n.setWidth 32 = BitVec.ofNat 32 n.toNat := by
    apply BitVec.eq_of_toNat_eq; simp
  unfold kS
  rw [e, ofBits_field n.toNat h1 (by omega), ← EReal.coe_mul]

/-- The plain form's. -/
theorem rS_eq (n : BitVec 8) : rS n = (((2 : ℝ) ^ ((n.toNat : ℤ) - 127) : ℝ) : EReal) := by
  have e : (IntOp.subi (n.setWidth 32) 127#32).toInt = (n.toNat : ℤ) - 127 := by
    revert n; decide +kernel
  unfold rS
  rw [e]
  show (((2 : ℝ) ^ (((n.toNat : ℤ) - 127 : ℤ) : ℝ) : ℝ) : EReal) = _
  rw [Real.rpow_intCast]

/-- At one place: the kernel's product is a real number, bounded, and the plain form's is twice it. -/
theorem place (a n : BitVec 8) (p : EReal) (ha : a ≠ 127#8) (ha' : a ≠ 255#8) (h1 : 1 ≤ n.toNat) (h2 : n.toNat ≤ 253) :
    ∃ y : ℝ, |y| ≤ 448 * 2 ^ (126 : ℤ) * (7 / 8) ∧ kW (kS n) (Ideal.ofBits .fp8e4m3 a) p = (y : EReal)
      ∧ (Ideal.ofBits .fp8e4m3 a * rS n) * rD p (rT p) = ((2 * y : ℝ) : EReal) := by
  obtain ⟨c, hc, ec⟩ := code_real a ha ha'
  obtain ⟨h, hh, ek, er⟩ := deriv_agree p
  have hs : (2 : ℝ) ^ ((n.toNat : ℤ) - 127) ≤ 2 ^ (126 : ℤ) := zpow_le_zpow_right₀ (by norm_num) (by omega)
  have hs0 : (0 : ℝ) ≤ 2 ^ ((n.toNat : ℤ) - 127) := by positivity
  refine ⟨c * 2 ^ ((n.toNat : ℤ) - 127) * h, ?_, ?_, ?_⟩
  · rw [abs_mul, abs_mul, abs_of_nonneg hs0]
    gcongr
  · unfold kW
    rw [ec, kS_eq n h1 h2, ek, ← EReal.coe_mul, ← EReal.coe_mul]
    congr 1; ring
  · rw [ec, rS_eq n, er, ← EReal.coe_mul, ← EReal.coe_mul]
    congr 1; ring

section Arrays
variable (A0 : IVec Cert.KernelIdeal.S2x896x25600 8) (A1 : IVec Cert.KernelIdeal.S2x896x800 8)
  (A2 : FVec Ideal Cert.KernelIdeal.S2x896x25600 .bf16)

/-- The codes of an array of bytes. -/
def codes : FVec Ideal Cert.KernelIdeal.S2x896x25600 .fp8e4m3 := bitcastToFloat .fp8e4m3 A0

variable (hA0 : ∀ i, A0 i ≠ 127#8 ∧ A0 i ≠ 255#8) (hA1 : ∀ i, 1 ≤ (A1 i).toNat ∧ (A1 i).toNat ≤ 253)
include hA0 hA1

/-- A block's 32 products, on both sides. -/
theorem block (b : Fin 2) (g : Fin 28) (d : Fin 25600) : ∃ y : Fin 32 → ℝ, (∀ k, |y k| ≤ 448 * 2 ^ (126 : ℤ) * (7 / 8))
    ∧ wBlock (codes A0) A1 A2 b g d = (fun k => (y k : EReal))
    ∧ rBlock (codes A0) A1 A2 b g d = (fun k => ((2 * y k : ℝ) : EReal)) := by
  have hp : ∀ k : Fin 32, ∃ y : ℝ, |y| ≤ 448 * 2 ^ (126 : ℤ) * (7 / 8) ∧ wBlock (codes A0) A1 A2 b g d k = (y : EReal)
      ∧ rBlock (codes A0) A1 A2 b g d k = ((2 * y : ℝ) : EReal) := fun k =>
    place _ _ (A2 (ix3 b (⟨g.val * 32 + k.val, by omega⟩ : Fin 896) d)) (hA0 _).1 (hA0 _).2 (hA1 _).1 (hA1 _).2
  choose y hy ek er using hp
  exact ⟨y, hy, funext ek, funext er⟩

/-- The codes of the results agree. -/
theorem codes_agree : wCodes (codes A0) A1 A2 = Cert.ReferenceIdeal.Gen.out0_3 (F := Ideal) (codes A0) A1 A2 := by
  have key : ∀ (b : Fin 2) (d : Fin 25600) (r : Fin 896),
      wCode (codes A0) A1 A2 b d r = Cert.ReferenceIdeal.Gen.out0_3 (F := Ideal) (codes A0) A1 A2 (ix3 b d r) := fun b d r => by
    rw [Cert.ReferenceIdeal.Gen.out3_apply (codes A0) A1 A2 b d ⟨r.val / 32, by omega⟩ ⟨r.val % 32, by omega⟩ r (by dsimp only; omega)]
    obtain ⟨y, hy, ek, er⟩ := block A0 A1 A2 hA0 hA1 b ⟨r.val / 32, by omega⟩ d
    unfold wCode
    rw [ek, er]
    exact (quant_agree y hy).1 _
  funext i
  exact (key (i 0) (i 1) (i 2)).trans (congrArg _ (eq_ix3 i).symm)

/-- The stored exponents of the results agree. -/
theorem scales_agree : wScales (codes A0) A1 A2 = Cert.ReferenceIdeal.Gen.out0_4 (F := Ideal) (codes A0) A1 A2 := by
  have key : ∀ (b : Fin 2) (d : Fin 25600) (g : Fin 28),
      wScale (codes A0) A1 A2 b d g = Cert.ReferenceIdeal.Gen.out0_4 (F := Ideal) (codes A0) A1 A2 (ix3 b d g) := fun b d g => by
    rw [Cert.ReferenceIdeal.Gen.out4_apply]
    obtain ⟨y, hy, ek, er⟩ := block A0 A1 A2 hA0 hA1 b g d
    unfold wScale
    rw [ek, er]
    exact (quant_agree y hy).2
  funext i
  exact (key (i 0) (i 1) (i 2)).trans (congrArg _ (eq_ix3 i).symm)

end Arrays

end Cert.Agree

end
-- ==== Proof.Algebraic.lean ====
/- The value claim: at the arguments the precondition admits, the ideal kernel and the ideal plain form both run and end
   with the same two results. -/
module

public import proofs.«01_k».proof.Defs
public import proofs.«01_k».proof.Proof.Agree
public import Idealize.ShloMosaic.Adequacy
public import Idealize.ShloMosaic.Init

@[expose] public section

set_option maxRecDepth 16384

noncomputable section

/-- A number broadcasts to each of the two shapes. -/
instance Cert.Algebraic.inRangeFacts : Cert.Pre_in_range.Facts where
  bcast_S_S2x896x25600 := by decide
  bcast_S_S2x896x800 := by decide

namespace Cert.Algebraic

open Idealize.ShloMosaic Idealize.ShloMosaic.TcCoe Idealize.SL.Sem
open Cert.KernelIdeal.Gen (wCodes wScales)
open Cert.Agree (codes)

/-! ## The precondition -/

/-- A byte the predicate admits is not a NaN code. -/
theorem code_ok : ∀ a : BitVec 8, IntOp.andi (IntOp.cmpi .ne a 127#8) (IntOp.cmpi .ne a 255#8) = 1#1 → a ≠ 127#8 ∧ a ≠ 255#8 := by
  decide +kernel
/-- A scale byte the predicate admits is in 1, …, 253. -/
theorem scale_ok : ∀ n : BitVec 8, IntOp.andi (IntOp.cmpi .uge n 1#8) (IntOp.cmpi .ule n 253#8) = 1#1 → 1 ≤ n.toNat ∧ n.toNat ≤ 253 := by
  decide +kernel

section
variable (A0 : IVec Cert.KernelIdeal.S2x896x25600 8) (A1 : IVec Cert.KernelIdeal.S2x896x800 8) (A2 : FVec Ideal Cert.KernelIdeal.S2x896x25600 .bf16)

/-- The precondition, read at a code. -/
theorem codes_ok (h : (Cert.Pre_in_range.fn (F := Ideal) A0 A1 A2).1 = (fun _ => 1#1)) (i) : A0 i ≠ 127#8 ∧ A0 i ≠ 255#8 :=
  code_ok _ (congrFun h i)
/-- The precondition, read at a scale. -/
theorem scales_ok (h : (Cert.Pre_in_range.fn (F := Ideal) A0 A1 A2).2 = (fun _ => 1#1)) (i) : 1 ≤ (A1 i).toNat ∧ (A1 i).toNat ≤ 253 :=
  scale_ok _ (congrFun h i)
end

/-! ## The two runs, each with its results named -/

section Kernel
open Cert.KernelIdeal Cert.KernelIdeal.Gen
variable (m : (ℓ : Loc nD τ sig) → Buf (Elt Ideal) ℓ) (ρ : Dev nD → PrngReg)

/-- The ideal kernel ends with its two results at the products, block by block, of its arguments. -/
theorem kernel_run : θ_run defs (onTc (τ := τ) (main (F := Ideal))) ⟨m, fun _ => 0, ρ⟩ (fun r => ∀ c : Dev nD,
      r.2.mem ((c.tc : Thread nD τ).loc main_v1_0) = wCodes (codes (m ((c.tc : Thread nD τ).loc main_arg0))) (m ((c.tc : Thread nD τ).loc main_arg1)) (m ((c.tc : Thread nD τ).loc main_arg2))
      ∧ r.2.mem ((c.tc : Thread nD τ).loc main_v1_1) = wScales (codes (m ((c.tc : Thread nD τ).loc main_arg0))) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h c).1 3).trans ((codes_value m c).trans (by rw [V_main_v0, V_main_arg1, V_main_arg2]; rfl)),
      ((h c).1 4).trans ((scales_value m c).trans (by rw [V_main_v0, V_main_arg1, V_main_arg2]; rfl)),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)
end Kernel

section Reference
open Cert.ReferenceIdeal Cert.ReferenceIdeal.Gen
variable (m : (ℓ : Loc nD τ sig) → Buf (Elt Ideal) ℓ) (ρ : Dev nD → PrngReg)

/-- The ideal plain form ends with its two results at what its body stores of its arguments. -/
theorem reference_run : θ_run defs (onTc (τ := τ) (main (F := Ideal))) ⟨m, fun _ => 0, ρ⟩ (fun r => ∀ c : Dev nD,
      r.2.mem ((c.tc : Thread nD τ).loc main_v1_0) = out0_3 (F := Ideal) (codes (m ((c.tc : Thread nD τ).loc main_arg0))) (m ((c.tc : Thread nD τ).loc main_arg1)) (m ((c.tc : Thread nD τ).loc main_arg2))
      ∧ r.2.mem ((c.tc : Thread nD τ).loc main_v1_1) = out0_4 (F := Ideal) (codes (m ((c.tc : Thread nD τ).loc main_arg0))) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h c).1 3).trans ((codes_value m c).trans (by rw [V_main_v0, V_main_arg1, V_main_arg2]; rfl)),
      ((h c).1 4).trans ((scales_value m c).trans (by rw [V_main_v0, V_main_arg1, V_main_arg2]; rfl)),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)
end Reference

/-! ## The claim -/

/-- Both run and end with the same two results. -/
theorem algebraic : Cert.algebraic_KernelIdeal_ReferenceIdeal_pre_in_range := fun m g m' g' hpre hargs =>
  ⟨fun c => wCodes (codes (m ((c.tc : Thread Cert.KernelIdeal.nD Cert.KernelIdeal.τ).loc Cert.KernelIdeal.main_arg0)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => wScales (codes (m ((c.tc : Thread Cert.KernelIdeal.nD Cert.KernelIdeal.τ).loc Cert.KernelIdeal.main_arg0)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    kernel_run m g,
    (θ_run (Cert.ReferenceIdeal.defs (F := Ideal)) _ _).mono (fun r h c => by
      obtain ⟨h0, h1, ha⟩ := h c
      obtain ⟨e0, e1, e2⟩ := hargs c
      have k0 := codes_ok _ _ _ (hpre c).1
      have k1 := scales_ok _ _ _ (hpre c).2
      refine ⟨h0.trans ?_, h1.trans ?_, ha⟩
      · rw [e0, e1, e2]
        exact (Cert.Agree.codes_agree _ _ _ k0 k1).symm
      · rw [e0, e1, e2]
        exact (Cert.Agree.scales_agree _ _ _ k0 k1).symm) (reference_run m' g')⟩

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelIdealFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Algebraic.inRangeFacts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  ⟨IdealRules.named_const.statement Cert.KernelIdeal.κ "gelu_ck" .f32 0x3D122279#32 _ rfl,
    IdealRules.named_const.statement Cert.KernelIdeal.κ "gelu_c" .f32 0x3F4C422A#32 _ rfl,
    IdealRules.named_const.statement Cert.KernelIdeal.κ "gelu_c_third" .f32 0x3E882C1C#32 _ rfl,
    IdealRules.named_const.statement Cert.KernelIdeal.κ "third" .f32 0x3EAAAAAB#32 _ rfl⟩,
  Cert.Algebraic.algebraic⟩

end Cert.Proof

end
